-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![1024, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S1024x256 .f32) (main_arg1 : FVec F S256x64 .f32) (main_arg2 : IVec S1024x2 32) (main_arg3 : FVec F S4x256x512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S1024x2 32 := broadcastInDim S1024x2 ![] bcast_S_S1024x2 main_c_2
  let main_v10 : IVec S1024x2 1 := cmpi .sge main_arg2 main_v9
  let main_c_3 : IVec S_ 32 := constantI S_ 32 64#32
  let main_v11 : IVec S1024x2 32 := broadcastInDim S1024x2 ![] bcast_S_S1024x2 main_c_3
  let main_v12 : IVec S1024x2 1 := cmpi .slt main_arg2 main_v11
  let main_v13 : IVec S1024x2 1 := andi main_v10 main_v12
  let main_c_4 : IVec S_ 1 := constantI S_ 1 1#1
  let main_v14 : IVec S_ 1 := (fun x v => Host.reduce IntOp.andi x v reducesTo_S1024x2_S_d0_1 h_S_) main_v13 main_c_4
  let main_v15 : IVec S_ 1 := andi main_v8 main_v14
  main_v15
-- ==== Pre_routed_ReferenceIdeal.lean ====
abbrev S1024x256 : Shape := ⟨2, ![1024, 256]⟩
abbrev S256x64 : Shape := ⟨2, ![256, 64]⟩
abbrev S1024x2 : Shape := ⟨2, ![1024, 2]⟩
abbrev S64x256x512 : Shape := ⟨3, ![64, 256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S1024x256 .f32) (main_arg1 : FVec F S256x64 .f32) (main_arg2 : IVec S1024x2 32) (main_arg3 : FVec F S64x256x512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S1024x2 32 := broadcastInDim S1024x2 ![] bcast_S_S1024x2 main_c_2
  let main_v10 : IVec S1024x2 1 := cmpi .sge main_arg2 main_v9
  let main_c_3 : IVec S_ 32 := constantI S_ 32 64#32
  let main_v11 : IVec S1024x2 32 := broadcastInDim S1024x2 ![] bcast_S_S1024x2 main_c_3
  let main_v12 : IVec S1024x2 1 := cmpi .slt main_arg2 main_v11
  let main_v13 : IVec S1024x2 1 := andi main_v10 main_v12
  let main_c_4 : IVec S_ 1 := constantI S_ 1 1#1
  let main_v14 : IVec S_ 1 := (fun x v => Host.reduce IntOp.andi x v reducesTo_S1024x2_S_d0_1 h_S_) main_v13 main_c_4
  let main_v15 : IVec S_ 1 := andi main_v8 main_v14
  main_v15
-- ==== Kernel.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S64x512 : Shape := ⟨2, ![64, 512]⟩
abbrev S1216x1024 : Shape := ⟨2, ![1216, 1024]⟩
abbrev S1024x512 : Shape := ⟨2, ![1024, 512]⟩
abbrev S256x512 : Shape := ⟨2, ![256, 512]⟩
abbrev S16x64x512 : Shape := ⟨3, ![16, 64, 512]⟩
abbrev S16 : Shape := ⟨1, ![16]⟩
abbrev S_ : Shape := ⟨0, ![]⟩
abbrev S1024x64 : Shape := ⟨2, ![1024, 64]⟩
abbrev S1024 : Shape := ⟨1, ![1024]⟩
abbrev S1024x1 : Shape := ⟨2, ![1024, 1]⟩
abbrev S1x256x512 : Shape := ⟨3, ![1, 256, 512]⟩
abbrev S192x1024 : Shape := ⟨2, ![192, 1024]⟩
abbrev S256x1024 : Shape := ⟨2, ![256, 1024]⟩
abbrev S1 : Shape := ⟨1, ![1]⟩
abbrev S1x64x512 : Shape := ⟨3, ![1, 64, 512]⟩

abbrev nBuf : Space → Nat
  | .hbm => 5
  | .vmem => 12
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x2, .i32⟩
  | .hbm, ⟨3, _⟩ => ⟨S4x256x512, .f32⟩
  | .hbm, ⟨4, _⟩ => ⟨S64x512, .f32⟩
  | .local _ .vmem, ⟨0, _⟩ => ⟨S1024x256, .f32⟩
  | .local _ .vmem, ⟨1, _⟩ => ⟨S256x64, .f32⟩
  | .local _ .vmem, ⟨2, _⟩ => ⟨S1024x2, .i32⟩
  | .local _ .vmem, ⟨3, _⟩ => ⟨S4x256x512, .f32⟩
  | .local _ .vmem, ⟨4, _⟩ => ⟨S64x512, .f32⟩
  | .local _ .vmem, ⟨5, _⟩ => ⟨S1216x1024, .bf16⟩
  | .local _ .vmem, ⟨6, _⟩ => ⟨S1024x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S16x64x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_123 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v204 : BitVec 32 := Scalar.addi v2 c1_i32_123
  let c16_i32_124 : BitVec 32 := 16#32
  let v205 : BitVec 32 := Scalar.remsi v204 c16_i32_124
  let c64_i32 : BitVec 32 := 64#32
  let v206 : BitVec 32 := Scalar.muli v205 c64_i32
  let v207 : Index := Scalar.indexCast v206
  let c0_125 : Index := 0#32
  ![v207.toNat, 0]
def k0_dev16 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v215 : BitVec 32 := Scalar.addi v2 c1_i32_131
  let c16_i32_132 : BitVec 32 := 16#32
  let v216 : BitVec 32 := Scalar.remsi v215 c16_i32_132
  let c1_i32_136 : BitVec 32 := 1#32
  let v217 : BitVec 32 := Scalar.muli v216 c1_i32_136
  let v218 : BitVec 32 := Scalar.addi c0_i32_137 v217
  v218.toNat
def k0_dev17 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_142 : BitVec 32 := 2#32
  let v226 : BitVec 32 := Scalar.addi v2 c2_i32_142
  let c16_i32_143 : BitVec 32 := 16#32
  let v227 : BitVec 32 := Scalar.remsi v226 c16_i32_143
  let c1_i32_147 : BitVec 32 := 1#32
  let v228 : BitVec 32 := Scalar.muli v227 c1_i32_147
  let v229 : BitVec 32 := Scalar.addi c0_i32_148 v228
  v229.toNat
def k0_dev18 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_153 : BitVec 32 := 3#32
  let v237 : BitVec 32 := Scalar.addi v2 c3_i32_153
  let c16_i32_154 : BitVec 32 := 16#32
  let v238 : BitVec 32 := Scalar.remsi v237 c16_i32_154
  let c1_i32_158 : BitVec 32 := 1#32
  let v239 : BitVec 32 := Scalar.muli v238 c1_i32_158
  let v240 : BitVec 32 := Scalar.addi c0_i32_159 v239
  v240.toNat
def k0_dev19 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_163 : BitVec 32 := 4#32
  let v248 : BitVec 32 := Scalar.addi v2 c4_i32_163
  let c16_i32_164 : BitVec 32 := 16#32
  let v249 : BitVec 32 := Scalar.remsi v248 c16_i32_164
  let c1_i32_168 : BitVec 32 := 1#32
  let v250 : BitVec 32 := Scalar.muli v249 c1_i32_168
  let v251 : BitVec 32 := Scalar.addi c0_i32_169 v250
  v251.toNat
def k0_dev20 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_182 : BitVec 32 := 5#32
  let v270 : BitVec 32 := Scalar.addi v2 c5_i32_182
  let c16_i32_183 : BitVec 32 := 16#32
  let v271 : BitVec 32 := Scalar.remsi v270 c16_i32_183
  let c1_i32_187 : BitVec 32 := 1#32
  let v272 : BitVec 32 := Scalar.muli v271 c1_i32_187
  let v273 : BitVec 32 := Scalar.addi c0_i32_188 v272
  v273.toNat
def k0_dev21 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_193 : BitVec 32 := 6#32
  let v281 : BitVec 32 := Scalar.addi v2 c6_i32_193
  let c16_i32_194 : BitVec 32 := 16#32
  let v282 : BitVec 32 := Scalar.remsi v281 c16_i32_194
  let c1_i32_198 : BitVec 32 := 1#32
  let v283 : BitVec 32 := Scalar.muli v282 c1_i32_198
  let v284 : BitVec 32 := Scalar.addi c0_i32_199 v283
  v284.toNat
def k0_dev22 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_204 : BitVec 32 := 7#32
  let v292 : BitVec 32 := Scalar.addi v2 c7_i32_204
  let c16_i32_205 : BitVec 32 := 16#32
  let v293 : BitVec 32 := Scalar.remsi v292 c16_i32_205
  let c1_i32_209 : BitVec 32 := 1#32
  let v294 : BitVec 32 := Scalar.muli v293 c1_i32_209
  let v295 : BitVec 32 := Scalar.addi c0_i32_210 v294
  v295.toNat
def k0_dev23 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_215 : BitVec 32 := 8#32
  let v303 : BitVec 32 := Scalar.addi v2 c8_i32_215
  let c16_i32_216 : BitVec 32 := 16#32
  let v304 : BitVec 32 := Scalar.remsi v303 c16_i32_216
  let c1_i32_220 : BitVec 32 := 1#32
  let v305 : BitVec 32 := Scalar.muli v304 c1_i32_220
  let v306 : BitVec 32 := Scalar.addi c0_i32_221 v305
  v306.toNat
def k0_dev24 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_235 : BitVec 32 := 9#32
  let v325 : BitVec 32 := Scalar.addi v2 c9_i32_235
  let c16_i32_236 : BitVec 32 := 16#32
  let v326 : BitVec 32 := Scalar.remsi v325 c16_i32_236
  let c1_i32_240 : BitVec 32 := 1#32
  let v327 : BitVec 32 := Scalar.muli v326 c1_i32_240
  let v328 : BitVec 32 := Scalar.addi c0_i32_241 v327
  v328.toNat
def k0_dev25 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_246 : BitVec 32 := 10#32
  let v336 : BitVec 32 := Scalar.addi v2 c10_i32_246
  let c16_i32_247 : BitVec 32 := 16#32
  let v337 : BitVec 32 := Scalar.remsi v336 c16_i32_247
  let c1_i32_251 : BitVec 32 := 1#32
  let v338 : BitVec 32 := Scalar.muli v337 c1_i32_251
  let v339 : BitVec 32 := Scalar.addi c0_i32_252 v338
  v339.toNat
def k0_dev26 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_257 : BitVec 32 := 11#32
  let v347 : BitVec 32 := Scalar.addi v2 c11_i32_257
  let c16_i32_258 : BitVec 32 := 16#32
  let v348 : BitVec 32 := Scalar.remsi v347 c16_i32_258
  let c1_i32_262 : BitVec 32 := 1#32
  let v349 : BitVec 32 := Scalar.muli v348 c1_i32_262
  let v350 : BitVec 32 := Scalar.addi c0_i32_263 v349
  v350.toNat
def k0_dev27 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_268 : BitVec 32 := 12#32
  let v358 : BitVec 32 := Scalar.addi v2 c12_i32_268
  let c16_i32_269 : BitVec 32 := 16#32
  let v359 : BitVec 32 := Scalar.remsi v358 c16_i32_269
  let c1_i32_273 : BitVec 32 := 1#32
  let v360 : BitVec 32 := Scalar.muli v359 c1_i32_273
  let v361 : BitVec 32 := Scalar.addi c0_i32_274 v360
  v361.toNat
def k0_dev28 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_288 : BitVec 32 := 13#32
  let v380 : BitVec 32 := Scalar.addi v2 c13_i32_288
  let c16_i32_289 : BitVec 32 := 16#32
  let v381 : BitVec 32 := Scalar.remsi v380 c16_i32_289
  let c1_i32_293 : BitVec 32 := 1#32
  let v382 : BitVec 32 := Scalar.muli v381 c1_i32_293
  let v383 : BitVec 32 := Scalar.addi c0_i32_294 v382
  v383.toNat
def k0_dev29 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_299 : BitVec 32 := 14#32
  let v391 : BitVec 32 := Scalar.addi v2 c14_i32_299
  let c16_i32_300 : BitVec 32 := 16#32
  let v392 : BitVec 32 := Scalar.remsi v391 c16_i32_300
  let c1_i32_304 : BitVec 32 := 1#32
  let v393 : BitVec 32 := Scalar.muli v392 c1_i32_304
  let v394 : BitVec 32 := Scalar.addi c0_i32_305 v393
  v394.toNat
def k0_dev30 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_310 : BitVec 32 := 15#32
  let v402 : BitVec 32 := Scalar.addi v2 c15_i32_310
  let c16_i32_311 : BitVec 32 := 16#32
  let v403 : BitVec 32 := Scalar.remsi v402 c16_i32_311
  let c1_i32_315 : BitVec 32 := 1#32
  let v404 : BitVec 32 := Scalar.muli v403 c1_i32_315
  let v405 : BitVec 32 := Scalar.addi c0_i32_316 v404
  v405.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x2 : Shape := ⟨2, ![1024, 2]⟩
abbrev S64x256x512 : Shape := ⟨3, ![64, 256, 512]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1 : Shape := ⟨1, ![1]⟩
abbrev S1x1x1 : Shape := ⟨3, ![1, 1, 1]⟩
abbrev S1024x256x512 : Shape := ⟨3, ![1024, 256, 512]⟩
abbrev S1024x512 : Shape := ⟨2, ![1024, 512]⟩

abbrev nBuf : Space → Nat
  | .hbm => 72
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x2, .i32⟩
  | .hbm, ⟨3, _⟩ => ⟨S64x256x512, .f32⟩
  | .hbm, ⟨4, _⟩ => ⟨S1024x64, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x64, .f32⟩
  | .hbm, ⟨15, _⟩ => ⟨S1024x64, .f32⟩
  | .hbm, ⟨16, _⟩ => ⟨S_, .i32⟩
  | .hbm, ⟨17, _⟩ => ⟨S1024x2, .i32⟩
  | .hbm, ⟨18, _⟩ => ⟨S1024x2, .i1⟩
  | .hbm, ⟨19, _⟩ => ⟨S_, .i32⟩
  | .hbm, ⟨20, _⟩ => ⟨S1024x2, .i32⟩
  | .hbm, ⟨21, _⟩ => ⟨S1024x2, .i32⟩
  | .hbm, ⟨22, _⟩ => ⟨S1024x2, .i32⟩
  | .hbm, ⟨23, _⟩ => ⟨S1024x2x1, .i32⟩
  | .hbm, ⟨24, _⟩ => ⟨S1, .i32⟩
  | .hbm, ⟨25, _⟩ => ⟨S_, .i32⟩
  | .hbm, ⟨26, _⟩ => ⟨S1024x2x1, .i32⟩
  | .hbm, ⟨27, _⟩ => ⟨S1024x2x1, .i1⟩
  | .hbm, ⟨28, _⟩ => ⟨S1x1x1, .i32⟩
  | .hbm, ⟨29, _⟩ => ⟨S1024x2x1, .i32⟩
  | .hbm, ⟨30, _⟩ => ⟨S1024x2x1, .i1⟩
  | .hbm, ⟨31, _⟩ => ⟨S1024x2x1, .i1⟩
  | .hbm, ⟨32, _⟩ => ⟨S_, .i1⟩
  | .hbm, ⟨33, _⟩ => ⟨S1024x2, .i1⟩
  | .hbm, ⟨34, _⟩ => ⟨S1024x2, .f32⟩
  | .hbm, ⟨35, _⟩ => ⟨S_, .f32⟩
  | .hbm, ⟨36, _⟩ => ⟨S1024x2, .f32⟩
  | .hbm, ⟨37, _⟩ => ⟨S1024x2, .f32⟩
  | .hbm, ⟨38, _⟩ => ⟨S1024x1, .f32⟩
  | .hbm, ⟨39, _⟩ => ⟨S1024x1, .f32⟩
  | .hbm, ⟨40, _⟩ => ⟨S1024x1, .f32⟩
  | .hbm, ⟨41, _⟩ => ⟨S1024x1, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S1024, .i32⟩
  | .hbm, ⟨50, _⟩ => ⟨S1024x1, .i32⟩
  | .hbm, ⟨51, _⟩ => ⟨S1024x256x512, .f32⟩
  | .hbm, ⟨52, _⟩ => ⟨S1024x512, .f32⟩
  | .hbm, ⟨53, _⟩ => ⟨S1024x1, .i32⟩
  | .hbm, ⟨54, _⟩ => ⟨S1024, .i32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S1024x1, .i32⟩
  | .hbm, ⟨63, _⟩ => ⟨S1024x256x512, .f32⟩
  | .hbm, ⟨64, _⟩ => ⟨S1024x512, .f32⟩
  | .hbm, ⟨65, _⟩ => ⟨S1024x1, .f32⟩
  | .hbm, ⟨66, _⟩ => ⟨S1024x512, .f32⟩
  | .hbm, ⟨67, _⟩ => ⟨S1024x512, .f32⟩
  | .hbm, ⟨68, _⟩ => ⟨S1024x1, .f32⟩
  | .hbm, ⟨69, _⟩ => ⟨S1024x512, .f32⟩
  | .hbm, ⟨70, _⟩ => ⟨S1024x512, .f32⟩
  | .hbm, ⟨71, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_2 : Ref sig .tc := ⟨.hbm, 55, rfl⟩
abbrev main_v26 : Ref sig .tc := ⟨.hbm, 56, rfl⟩
abbrev main_v27 : Ref sig .tc := ⟨.hbm, 57, rfl⟩
abbrev main_c_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]
-- ==== Proof.Protocol.lean ====
/-
# The protocol of the sixteen devices

Every device runs the same program. Device `c` announces itself to the fifteen others (one unit on each one's barrier
semaphore), waits until the fifteen others have announced themselves, then sends to the device `k` places further,
for `k = 1 … 15`, a block of 64 rows, which lands in slot `k` of that device's landing buffer; then it waits for the
fifteen blocks that come to itself, and last for its own fifteen transfers to have left.

Who signals, who waits, and what each signal hands over:

* the barrier semaphore of device `d`: fifteen units, one from each other device; the unit of the device `k` places
  further hands `d` the slot `k` of THAT device's landing buffer, the place of `d`'s transfer number `k`;
* the receive semaphore `k` of device `d`: the transfer number `k` of the device `k` places before; it hands `d` its
  own slot `k`, holding the block sent;
* the send semaphore `k` of device `c`: its own transfer number `k`; it hands `c` the rows it has sent back.

The contents sent are a parameter here (`msg`): this module is about who owns what.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's ghost state: rounds on cells, the duties of a cell numbered. -/
abbrev UB : Type := URounds (GSem nD τ sig) ℕ
/-- The staging's ghost state beside the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The devices around the ring -/

/-- The device `k` places after `c`. -/
def fwd (c : Dev nD) (k : ℕ) : Dev nD := ⟨(c.val + k) % 16, Nat.mod_lt _ (by decide)⟩
/-- The device `k` places before `c`. -/
def bwd (c : Dev nD) (k : ℕ) : Dev nD := ⟨(c.val + (16 - k % 16)) % 16, Nat.mod_lt _ (by decide)⟩

theorem fwd_bwd (c : Dev nD) (k : ℕ) : fwd (bwd c k) k = c := by
  have := c.isLt
  refine Fin.ext ?_
  show ((c.val + (16 - k % 16)) % 16 + k) % 16 = c.val
  have : c.val < 16 := c.isLt
  omega
theorem bwd_fwd (c : Dev nD) (k : ℕ) : bwd (fwd c k) k = c := by
  refine Fin.ext ?_
  show ((c.val + k) % 16 + (16 - k % 16)) % 16 = c.val
  have : c.val < 16 := c.isLt
  omega
/-- Going `k` places on and then `16 - k` more is going around. -/
theorem fwd_fwd (c : Dev nD) {k : ℕ} (hk : k ≤ 16) : fwd (fwd c k) (16 - k) = c := by
  refine Fin.ext ?_
  show ((c.val + k) % 16 + (16 - k)) % 16 = c.val
  have : c.val < 16 := c.isLt
  omega
theorem bwd_eq_iff {c d : Dev nD} (k : ℕ) : fwd d k = c ↔ d = bwd c k :=
  ⟨fun h => by rw [← h, bwd_fwd], fun h => by rw [h, fwd_bwd]⟩

/-- Moving every device `k` places on, as a renaming of the devices. -/
def shift (k : ℕ) : Dev nD ≃ Dev nD := ⟨fun c => fwd c k, fun c => bwd c k, fun c => bwd_fwd c k, fun c => fwd_bwd c k⟩

/-! ## The buffers and the semaphores -/

theorem inb_slot (k : ℕ) : ∀ a, (![k % 16, 0, 0] : Fin 3 → ℕ) a + S1x64x512.size a ≤ S16x64x512.size a := by
  have h : k % 16 + 1 ≤ 16 := by omega
  intro a
  match a with
  | ⟨0, _⟩ => exact h
  | ⟨1, _⟩ => show 0 + 64 ≤ 64; decide
  | ⟨2, _⟩ => show 0 + 512 ≤ 512; decide

theorem inb_src (i : ℕ) : ∀ a, (![64 * (i % 4), 0] : Fin 2 → ℕ) a + S64x512.size a ≤ S256x512.size a := by
  have h : 64 * (i % 4) + 64 ≤ 256 := by omega
  intro a
  match a with
  | ⟨0, _⟩ => exact h
  | ⟨1, _⟩ => show 0 + 512 ≤ 512; decide

/-- The landing buffer. -/
abbrev commM : Memref sig .tc .vmem S16x64x512 .bf16 := Memref.whole cc0_scratch6
/-- Slot `k` of the landing buffer, still with its leading axis of extent one. -/
abbrev slotR (k : ℕ) : Rect S16x64x512 := Rect.unit (s := S16x64x512) ![k % 16, 0, 0] S1x64x512.size (inb_slot k)
/-- Slot `k` of the landing buffer. -/
abbrev slotM (k : ℕ) : Memref sig .tc .vmem S64x512 .bf16 :=
  (commM.slice (slotR k) (fun _ => rfl)).squeeze S64x512 squeezes_S1x64x512_S64x512

/-- The four buffers that hold the blocks to send, four blocks of 64 rows each. -/
def stageM : ℕ → Memref sig .tc .vmem S256x512 .bf16
  | 0 => Memref.whole cc0_scratch2
  | 1 => Memref.whole cc0_scratch3
  | 2 => Memref.whole cc0_scratch4
  | _ => Memref.whole cc0_scratch5

/-- The rows of a sending buffer that its block number `i` holds. -/
abbrev srcR (i : ℕ) : Rect S256x512 := Rect.unit (s := S256x512) ![64 * (i % 4), 0] S64x512.size (inb_src i)
/-- What transfer number `k` reads: block `k - 1` of the sixteen. -/
abbrev srcM (k : ℕ) : Memref sig .tc .vmem S64x512 .bf16 := (stageM ((k - 1) / 4)).slice (srcR (k - 1)) (fun _ => rfl)

/-- The runtime's barrier semaphore. -/
abbrev barS : Sem sig := (SemArray.scalar (sig.barrier 0 rfl) : Sems sig S_).sem
/-- The send semaphore of transfer `k`, the receive semaphore of slot `k`. -/
def sendS (k : ℕ) : DmaSem sig := ⟨5 + k % 16, by show 5 + k % 16 < 37; omega⟩
def recvS (k : ℕ) : DmaSem sig := ⟨21 + k % 16, by show 21 + k % 16 < 37; omega⟩

abbrev barCell (c : Dev nD) : GSem nD τ sig := ((c : Thread nD τ), .reg barS)
abbrev sendCell (c : Dev nD) (k : ℕ) : GSem nD τ sig := ((c : Thread nD τ), .dma (sendS k))
abbrev recvCell (c : Dev nD) (k : ℕ) : GSem nD τ sig := ((c : Thread nD τ), .dma (recvS k))

/-- What a transfer of one block credits. -/
abbrev N : ℕ := (slotM 0).view.dmaCredit
theorem N_pos : 0 < N := View.dmaCredit_pos _ (by decide)
theorem slot_credit (k : ℕ) : (slotM k).view.dmaCredit = N := rfl
theorem src_credit (k : ℕ) : (srcM k).view.dmaCredit = N := by
  show sig.dmaCredit Kind.tc (Kind.tc.table Space.vmem) (stageM ((k - 1) / 4)).view.buf S64x512 EltTy.bf16 = N
  generalize (k - 1) / 4 = j
  match j with
  | 0 => decide
  | 1 => decide
  | 2 => decide
  | (n + 3) => show sig.dmaCredit Kind.tc (Kind.tc.table Space.vmem) (stageM 3).view.buf S64x512 EltTy.bf16 = N; decide

/-! ## The schedule -/

section Sched

variable (msg : Dev nD → ℕ → S64x512.Idx → Elt F .bf16)

/-- Slot `k` of device `d` at whatever it holds. -/
def slotAny (d : Dev nD) (k : ℕ) : sProp 𝕄 := iprop(∃ X, owns (d : Thread nD τ) (slotM k) fullShare X)
/-- Slot `k` of device `d` holding the block the device `k` places before has sent. -/
def recvPay (d : Dev nD) (k : ℕ) : sProp 𝕄 := owns (d : Thread nD τ) (slotM k) fullShare (msg (bwd d k) k)
/-- The rows device `c` sends in transfer `k`. -/
def sendPay (c : Dev nD) (k : ℕ) : sProp 𝕄 := owns (c : Thread nD τ) (srcM k) fullShare (msg c k)

instance slotAny_storable (d : Dev nD) (k : ℕ) : BI.Storable (upEmb : UEmb _ 𝕄) (slotAny (F := F) d k) := by unfold slotAny; infer_instance
instance recvPay_storable (d : Dev nD) (k : ℕ) : BI.Storable (upEmb : UEmb _ 𝕄) (recvPay msg d k) := by unfold recvPay; infer_instance
instance sendPay_storable (c : Dev nD) (k : ℕ) : BI.Storable (upEmb : UEmb _ 𝕄) (sendPay msg c k) := by unfold sendPay; infer_instance

/-- Which of the exchange's semaphores a cell is: the transfer number of a send cell, of a receive cell. -/
def sendIx (s : SemLoc sig) : Option ℕ := match s with
  | .dma q => if 5 < q.val ∧ q.val < 21 then some (q.val - 5) else none
  | .reg _ => none
def recvIx (s : SemLoc sig) : Option ℕ := match s with
  | .dma q => if 21 < q.val then some (q.val - 21) else none
  | .reg _ => none

theorem sendIx_send {k : ℕ} (h1 : 1 ≤ k) (h2 : k < 16) : sendIx (.dma (sendS k)) = some k := by
  show (if 5 < 5 + k % 16 ∧ 5 + k % 16 < 21 then some (5 + k % 16 - 5) else none) = some k
  rw [if_pos (by omega)]; congr 1; omega
theorem recvIx_send (k : ℕ) : recvIx (.dma (sendS k)) = none := if_neg (by show ¬ 21 < 5 + k % 16; omega)
theorem recvIx_recv {k : ℕ} (h1 : 1 ≤ k) (h2 : k < 16) : recvIx (.dma (recvS k)) = some k := by
  show (if 21 < 21 + k % 16 then some (21 + k % 16 - 21) else none) = some k
  rw [if_pos (by omega)]; congr 1; omega
theorem sendIx_recv (k : ℕ) : sendIx (.dma (recvS k)) = none := if_neg (by show ¬ (5 < 21 + k % 16 ∧ 21 + k % 16 < 21); omega)

/-- One round. A barrier cell has the duties `1 … 15` of one unit, duty `k` handing over slot `k` of the device `k`
    places further; a send or receive cell has the one duty `0`, of a block's credit. -/
def exch : Rounds.Schedule (GSem nD τ sig) ℕ 𝕄 where
  duties g r :=
    if r = 0 ∧ g.1.2 = .tc then
      if g.2 = .reg barS then Finset.Ico 1 16
      else if (sendIx g.2).isSome ∨ (recvIx g.2).isSome then {0} else ∅
    else ∅
  unitless _ := False
  amount g _ _ := if g.2 = .reg barS then 1 else N
  payload g _ d :=
    if g.2 = .reg barS then slotAny (fwd g.1.1 d) d
    else match sendIx g.2, recvIx g.2 with
      | some k, _ => sendPay msg g.1.1 k
      | none, some k => recvPay msg g.1.1 k
      | none, none => iprop(emp)
  amount_pos g _ _ _ := by
    by_cases h : g.2 = .reg barS
    · rw [if_pos h]; exact Nat.one_pos
    · rw [if_neg h]; exact N_pos

instance exch_payload_storable (g : GSem nD τ sig) (r : ℕ) (d : ℕ) : BI.Storable (upEmb : UEmb _ 𝕄) ((exch msg).payload g r d) := by
  show BI.Storable upEmb (if g.2 = .reg barS then slotAny (fwd g.1.1 d) d
    else match sendIx g.2, recvIx g.2 with
      | some k, _ => sendPay msg g.1.1 k
      | none, some k => recvPay msg g.1.1 k
      | none, none => iprop(emp))
  split
  · infer_instance
  · split <;> infer_instance

theorem dma_ne_bar (q : DmaSem sig) : (SemLoc.dma q : SemLoc sig) ≠ .reg barS := fun h => by cases h

variable (c : Dev nD) {k : ℕ}

theorem duties_bar : (exch msg).duties (barCell c) 0 = Finset.Ico 1 16 := by
  dsimp only [exch]; rw [if_pos ⟨rfl, rfl⟩, if_pos rfl]
theorem duties_send (h1 : 1 ≤ k) (h2 : k < 16) : (exch msg).duties (sendCell c k) 0 = {0} := by
  dsimp only [exch]; rw [if_pos ⟨rfl, rfl⟩, if_neg (dma_ne_bar _), if_pos (Or.inl (by rw [sendIx_send h1 h2]; rfl))]
theorem duties_recv (h1 : 1 ≤ k) (h2 : k < 16) : (exch msg).duties (recvCell c k) 0 = {0} := by
  dsimp only [exch]; rw [if_pos ⟨rfl, rfl⟩, if_neg (dma_ne_bar _), if_pos (Or.inr (by rw [recvIx_recv h1 h2]; rfl))]
/-- No duty after round 0; -/
theorem duties_later (g : GSem nD τ sig) : ∀ r, 1 ≤ r → (exch msg).duties g r = ∅ :=
  fun r hr => by dsimp only [exch]; rw [if_neg (fun h => by omega)]
/-- and none at all on the send and receive semaphore number 0, which no transfer uses. -/
theorem duties_send_zero : ∀ r, 0 ≤ r → (exch msg).duties (sendCell c 0) r = ∅ := fun r _ => by
  dsimp only [exch]; split
  · rw [if_neg (dma_ne_bar _)]; exact if_neg (by decide)
  · rfl
theorem duties_recv_zero : ∀ r, 0 ≤ r → (exch msg).duties (recvCell c 0) r = ∅ := fun r _ => by
  dsimp only [exch]; split
  · rw [if_neg (dma_ne_bar _)]; exact if_neg (by decide)
  · rfl

theorem amount_bar (d : ℕ) : (exch msg).amount (barCell c) 0 d = 1 := by dsimp only [exch]; exact if_pos rfl
theorem amount_dma (q : DmaSem sig) (d : ℕ) : (exch msg).amount ((c : Thread nD τ), .dma q) 0 d = N := by
  dsimp only [exch]; exact if_neg (dma_ne_bar q)

theorem expect_bar : (exch msg).expect (barCell c) 0 = 15 := by
  unfold Schedule.expect Schedule.amountOf
  rw [duties_bar, Finset.sum_congr rfl fun d _ => amount_bar msg c d, Finset.sum_const, Nat.card_Ico, smul_eq_mul]
theorem expect_send (h1 : 1 ≤ k) (h2 : k < 16) : (exch msg).expect (sendCell c k) 0 = N := by
  unfold Schedule.expect Schedule.amountOf; rw [duties_send msg c h1 h2, Finset.sum_singleton, amount_dma]
theorem expect_recv (h1 : 1 ≤ k) (h2 : k < 16) : (exch msg).expect (recvCell c k) 0 = N := by
  unfold Schedule.expect Schedule.amountOf; rw [duties_recv msg c h1 h2, Finset.sum_singleton, amount_dma]

theorem payload_bar (d : ℕ) : (exch msg).payload (barCell c) 0 d = slotAny (fwd c d) d := by dsimp only [exch]; exact if_pos rfl
theorem payload_send (h1 : 1 ≤ k) (h2 : k < 16) (d : ℕ) : (exch msg).payload (sendCell c k) 0 d = sendPay msg c k := by
  dsimp only [exch]; rw [if_neg (dma_ne_bar _), sendIx_send h1 h2]
theorem payload_recv (h1 : 1 ≤ k) (h2 : k < 16) (d : ℕ) : (exch msg).payload (recvCell c k) 0 d = recvPay msg c k := by
  dsimp only [exch]; rw [if_neg (dma_ne_bar _), sendIx_recv, recvIx_recv h1 h2]

/-- What a wait for the whole round hands over: at the barrier the fifteen slots; -/
theorem rest_bar : bigSep ((exch msg).duties (barCell c) 0 \ ∅) (fun d => (exch msg).payload (barCell c) 0 d)
    = bigSep (Finset.Ico 1 16) fun k => slotAny (fwd c k) k := by
  rw [Finset.sdiff_empty, duties_bar]; exact bigSep_congr fun d _ => payload_bar msg c d
/-- at a send semaphore the rows sent; -/
theorem rest_send (h1 : 1 ≤ k) (h2 : k < 16) :
    bigSep ((exch msg).duties (sendCell c k) 0 \ ∅) (fun d => (exch msg).payload (sendCell c k) 0 d) = sendPay msg c k := by
  rw [Finset.sdiff_empty, duties_send msg c h1 h2, bigSep_singleton, payload_send msg c h1 h2]
/-- at a receive semaphore the slot with the block received. -/
theorem rest_recv (h1 : 1 ≤ k) (h2 : k < 16) :
    bigSep ((exch msg).duties (recvCell c k) 0 \ ∅) (fun d => (exch msg).payload (recvCell c k) 0 d) = recvPay msg c k := by
  rw [Finset.sdiff_empty, duties_recv msg c h1 h2, bigSep_singleton, payload_recv msg c h1 h2]

end Sched

/-! ## What a device owes -/

/-- What device `c` still owes when its transfers numbered `j` and more are still to come; -/
def owedRecv (c : Dev nD) (j : ℕ) : CellTallies nD τ sig Unit := ∑ k ∈ Finset.Ico j 16, tallyAt (recvCell (fwd c k) k) () N
/-- and when its announcements numbered `j` and more are. -/
def owedBar (c : Dev nD) (j : ℕ) : CellTallies nD τ sig Unit := ∑ k ∈ Finset.Ico j 16, tallyAt (barCell (fwd c k)) () 1

/-- What device `c` owes at the start. -/
def O₀ (c : Dev nD) : CellTallies nD τ sig Unit := owedRecv c 1 + owedBar c 1

theorem Ico_peel {k : ℕ} (h : k < 16) : Finset.Ico k 16 = insert k (Finset.Ico (k + 1) 16) := by
  ext x; simp only [Finset.mem_Ico, Finset.mem_insert]; omega
theorem owedRecv_peel (c : Dev nD) {k : ℕ} (h : k < 16) : owedRecv c k = owedRecv c (k + 1) + tallyAt (recvCell (fwd c k) k) () N := by
  unfold owedRecv; rw [Ico_peel h, Finset.sum_insert (by rw [Finset.mem_Ico]; omega), add_comm]
theorem owedBar_peel (c : Dev nD) {k : ℕ} (h : k < 16) : owedBar c k = owedBar c (k + 1) + tallyAt (barCell (fwd c k)) () 1 := by
  unfold owedBar; rw [Ico_peel h, Finset.sum_insert (by rw [Finset.mem_Ico]; omega), add_comm]
theorem owedRecv_done (c : Dev nD) : owedRecv c 16 = 0 := by unfold owedRecv; rw [Finset.Ico_self, Finset.sum_empty]
theorem owedBar_done (c : Dev nD) : owedBar c 16 = 0 := by unfold owedBar; rw [Finset.Ico_self, Finset.sum_empty]

/-- A sum of tallies is positive at a cell only if one of the tallies is. -/
theorem sum_tally_pos {S : Finset ℕ} {cell : ℕ → GSem nD τ sig} {n : ℕ} {g : GSem nD τ sig} {u : Unit}
    (h : 0 < (∑ k ∈ S, tallyAt (cell k) () n : CellTallies nD τ sig Unit) g u) : ∃ k ∈ S, g = cell k := by
  by_contra hn
  rw [Finset.sum_apply, Finsupp.finset_sum_apply, Finset.sum_eq_zero] at h
  · exact Nat.lt_irrefl 0 h
  · intro k hk
    rw [tallyAt_apply]
    exact if_neg (fun h' => hn ⟨k, hk, h'.1⟩)

theorem owedRecv_pos {c : Dev nD} {j : ℕ} {g : GSem nD τ sig} {u : Unit} (h : 0 < owedRecv c j g u) :
    ∃ k ∈ Finset.Ico j 16, g = recvCell (fwd c k) k := sum_tally_pos h
theorem O₀_pos {c : Dev nD} {g : GSem nD τ sig} {u : Unit} (h : 0 < O₀ c g u) :
    (∃ k ∈ Finset.Ico 1 16, g = recvCell (fwd c k) k) ∨ ∃ k ∈ Finset.Ico 1 16, g = barCell (fwd c k) := by
  unfold O₀ at h
  rw [Pi.add_apply, Finsupp.add_apply] at h
  rcases Nat.add_pos_iff_pos_or_pos.mp h with h | h
  · exact Or.inl (sum_tally_pos h)
  · exact Or.inr (sum_tally_pos h)

/-! ## The order of the waits -/

/-- The cells a device may owe at: those of the device's core. -/
def L (g : GSem nD τ sig) : Finset Unit := if g.1.2 = .tc then {()} else ∅
/-- Levels: barrier cells at 1, receive cells at 2, everything else (staging, send) at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) {k : ℕ} (hk : k ∈ Finset.Ico 1 16) : lv (recvCell c k) () = 2 := by
  rw [Finset.mem_Ico] at hk
  dsimp only [lv]; rw [if_neg (dma_ne_bar _), recvIx_recv hk.1 hk.2]; rfl

/-- A device may wait at a staging semaphore whatever it owes of the exchange. -/
theorem mayWait_stage (c : Dev nD) (q : DmaSem sig) (hq : recvIx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | ⟨k, -, rfl⟩ <;> exact Finset.mem_singleton_self _)
      (fun p hp => by
        rw [Finset.mem_singleton.mp hp]
        show lv ((c : Thread nD τ), .dma q) () ≤ 0
        dsimp only [lv]; rw [if_neg (dma_ne_bar q), hq]; exact le_refl _)
      (fun g u hg => by
        cases u
        rcases O₀_pos hg with ⟨k, hk, rfl⟩ | ⟨k, hk, rfl⟩
        · rw [lv_recv _ hk]; decide
        · rw [lv_bar]; decide)
  · rw [MayWait_zero]; iintro -; iempintro

/-- At its barrier wait a device owes its transfers only: receive cells, above its barrier cell. -/
theorem mayWait_bar (c : Dev nD) : (levAts L lv : sProp 𝕄) ⊢ MayWait (c : Thread nD τ) (.reg barS) () (owedRecv c 1) :=
  MayOwe.of_cut (L := L) (lev := lv) 1 (fun p hp => by rw [Finset.mem_singleton.mp hp, L_tc]; exact Finset.mem_singleton_self _)
    (fun g u hg => by obtain ⟨k, -, rfl⟩ := owedRecv_pos hg; exact Finset.mem_singleton_self _)
    (fun p hp => by rw [Finset.mem_singleton.mp hp]; exact le_of_eq (lv_bar c))
    (fun g u hg => by
      cases u
      obtain ⟨k, hk, rfl⟩ := owedRecv_pos hg
      rw [lv_recv _ hk]; decide)

end Cert.Moe

end
-- ==== Proof.Buffers.lean ====
/-
# The landing buffer by slots, the sending buffers by blocks

A buffer held whole is held slot by slot (the landing buffer) or block by block (a sending buffer), and back.
-/
module

public import proofs.«01_k».proof.Proof.Protocol
public import Idealize.ShloMosaic.Lib.Ring
public import Idealize.ShloMosaic.Lib.ViewIndex
public import Idealize.SL.BI.BigOpNat

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Families over numbers -/

/-- A family is monotone member by member. -/
theorem fam_mono {M : Type} [URA M] {I : Type} [DecidableEq I] (S : Finset I) {A B : I → sProp M} (h : ∀ k ∈ S, A k ⊢ B k) : bigSep S A ⊢ bigSep S B :=
  bigSep_mono h

/-- A member of a family set apart. -/
theorem fam_take {M : Type} [URA M] {I : Type} [DecidableEq I] {S : Finset I} {i : I} (hi : i ∈ S) {A : I → sProp M} :
    bigSep S A = iprop(A i ∗ bigSep (S.erase i) A) := bigSep_erase hi

/-- A family over the first `n` numbers, indexed by `Fin n`. -/
theorem bigSep_fin_range {M : Type} [URA M] (n : ℕ) (A : ℕ → sProp M) :
    bigSep (Finset.univ : Finset (Fin n)) (fun i => A i.val) = bigSep (Finset.Ico 0 n) A := by
  have e : Finset.Ico 0 n = (Finset.univ : Finset (Fin n)).map Fin.valEmbedding := by
    ext x; simp only [Finset.mem_Ico, Finset.mem_map, Finset.mem_univ, true_and, Fin.valEmbedding_apply]
    exact ⟨fun h => ⟨⟨x, h.2⟩, rfl⟩, fun ⟨i, hi⟩ => by rw [← hi]; exact ⟨Nat.zero_le _, i.isLt⟩⟩
  rw [e, bigSep_map]; rfl

/-- A family over consecutive numbers cut in two. -/
theorem bigSep_Ico_cut {M : Type} [URA M] {a b c : ℕ} (h1 : a ≤ b) (h2 : b ≤ c) (A : ℕ → sProp M) :
    bigSep (Finset.Ico a c) A = iprop(bigSep (Finset.Ico a b) A ∗ bigSep (Finset.Ico b c) A) := by
  rw [show Finset.Ico a c = Finset.Ico a b ∪ Finset.Ico b c by ext x; simp only [Finset.mem_Ico, Finset.mem_union]; omega]
  exact bigSep_union (by rw [Finset.disjoint_left]; intro x hx hx'; rw [Finset.mem_Ico] at hx hx'; omega)

/-- A family over consecutive numbers, counted from the first. -/
theorem bigSep_Ico_from {M : Type} [URA M] (a n : ℕ) (A : ℕ → sProp M) :
    bigSep (Finset.Ico a (a + n)) A = bigSep (Finset.univ : Finset (Fin n)) (fun i => A (a + i.val)) := by
  rw [bigSep_fin_range n (fun i => A (a + i))]
  rw [show Finset.Ico a (a + n) = (Finset.Ico 0 n).map (addLeftEmbedding a) by
    ext x; simp only [Finset.mem_Ico, Finset.mem_map, addLeftEmbedding_apply]
    exact ⟨fun h => ⟨x - a, by omega, by omega⟩, fun ⟨i, hi, e⟩ => by omega⟩, bigSep_map]
  rfl

/-! ## The landing buffer -/

/-- The elements of slot `k`. -/
abbrev slotSet (k : ℕ) : Finset (cc0_scratch6 : Ref sig .tc).ty.Idx := (slotM k).view.set
theorem slot_set (k : ℕ) : slotSet k = (commM.view.slice (slotR k)).set := View.set_reshape _ _

theorem slot_disjoint (b b' : Fin 16) (h : b ≠ b') : Disjoint (slotSet b.val) (slotSet b'.val) := by
  rw [slot_set, slot_set]
  refine View.disjoint_slice (Rect.unit_disjoint (0 : Fin 3) ?_)
  have : b.val ≠ b'.val := fun e => h (Fin.ext e)
  show b.val % 16 + 1 ≤ b'.val % 16 ∨ b'.val % 16 + 1 ≤ b.val % 16
  omega

theorem slot_cover : (Finset.univ : Finset (Fin 16)).biUnion (fun b => slotSet b.val) = Finset.univ := by
  ext i
  simp only [Finset.mem_biUnion, Finset.mem_univ, true_and, iff_true]
  refine ⟨⟨(i 0).val, (i 0).isLt⟩, ?_⟩
  rw [slot_set, View.set_slice_whole, Rect.mem_set_unit]
  intro a
  match a with
  | ⟨0, _⟩ =>
    have : (i 0).val < 16 := (i 0).isLt
    show (i 0).val % 16 ≤ (i 0).val ∧ (i 0).val < (i 0).val % 16 + 1
    omega
  | ⟨1, _⟩ => exact ⟨Nat.zero_le _, by show (i 1).val < 0 + 64; have : (i 1).val < 64 := (i 1).isLt; omega⟩
  | ⟨2, _⟩ => exact ⟨Nat.zero_le _, by show (i 2).val < 0 + 512; have : (i 2).val < 512 := (i 2).isLt; omega⟩

/-- A slot at some contents, by what it reads or by its elements. -/
theorem slotAny_eq (c : Dev nD) (k : ℕ) :
    (slotAny c k : sProp 𝕄) = iprop(∃ f, (c : Thread nD τ).loc cc0_scratch6 ↦[slotSet k]{fullShare} f) := by
  have h₁ : (slotAny c k : sProp 𝕄) ⊢ iprop(∃ f, (c : Thread nD τ).loc cc0_scratch6 ↦[slotSet k]{fullShare} f) := by
    unfold slotAny owns
    iintro ⟨%X, %f, -, H⟩; iexists f; iexact H
  have h₂ : iprop(∃ f, (c : Thread nD τ).loc cc0_scratch6 ↦[slotSet k]{fullShare} f) ⊢ (slotAny c k : sProp 𝕄) := by
    unfold slotAny owns
    iintro ⟨%f, H⟩; iexists _; iexists f
    isplitr; · ipureintro; rfl
    iexact H
  exact BI.equiv_iff.mp ⟨h₁, h₂⟩

/-- The landing buffer at some contents is its sixteen slots at some contents. -/
theorem comm_split (c : Dev nD) :
    iprop(∃ f, (c : Thread nD τ).loc cc0_scratch6 ↦{fullShare} f) ⊢ (bigSep (Finset.Ico 0 16) (fun k => slotAny c k) : sProp 𝕄) := by
  rw [← bigSep_fin_range 16 (fun k => slotAny c k)]
  iintro ⟨%f, H⟩
  ihave H' := (Entails.of_eq (Ring.pointsTo_blocks (fun b : Fin 16 => slotSet b.val) slot_disjoint slot_cover f)) $$ H
  iapply (fam_mono Finset.univ (fun (b : Fin 16) _ => show ((c : Thread nD τ).loc cc0_scratch6 ↦[slotSet b.val]{fullShare} f : sProp 𝕄) ⊢ slotAny c b.val by
    rw [slotAny_eq]; iintro H; iexists f; iexact H))
  iexact H'

theorem comm_join (c : Dev nD) :
    (bigSep (Finset.Ico 0 16) (fun k => slotAny c k) : sProp 𝕄) ⊢ iprop(∃ f, (c : Thread nD τ).loc cc0_scratch6 ↦{fullShare} f) := by
  rw [bigSep_Ico_succ_bot (by decide : 0 < 16), slotAny_eq c 0]
  iintro ⟨⟨%f, H0⟩, HS⟩
  iapply (Ring.pointsTo_blocks_join_exists (fun b : Fin 16 => slotSet b.val) slot_disjoint slot_cover f)
  rw [bigSep_fin_range 16 (fun k => (iprop(∃ g, (c : Thread nD τ).loc cc0_scratch6 ↦[slotSet k]{fullShare} g) : sProp 𝕄)),
    bigSep_Ico_succ_bot (by decide : 0 < 16)]
  isplitl [H0]; · iexists f; iexact H0
  iapply (fam_mono (Finset.Ico (0 + 1) 16) (fun k _ => Entails.of_eq (slotAny_eq c k)))
  iexact HS

/-- A received block is in its slot. -/
theorem slotAny_of_recv (msg : Dev nD → ℕ → S64x512.Idx → Elt F .bf16) (c : Dev nD) (k : ℕ) : (recvPay msg c k : sProp 𝕄) ⊢ slotAny c k := by
  unfold recvPay slotAny; iintro H; iexists _; iexact H

/-- A block as a load of its slot returns it: with a leading axis of extent one. -/
def lift1 (X : S64x512.Idx → Elt F .bf16) : Vec F S1x64x512 .bf16 :=
  fun j => X ((Shape.reshapeEquiv (Shape.Squeezes.numel_eq squeezes_S1x64x512_S64x512)).symm j)

/-- A load of slot `k` reads the block the slot holds. -/
theorem read_slot (k : ℕ) (f : (commM.view.ty).Contents (Elt F)) (X : S64x512.Idx → Elt F .bf16) (h : (slotM k).view.read (Elt F) f = X) :
    commM.view.readAt (Elt F) (slotR k).toLoadRect f = lift1 X := by
  subst h
  funext j
  show commM.view.read (Elt F) f _ = commM.view.read (Elt F) f _
  congr 1
  show (slotR k).emb j = (slotR k).emb _
  exact congrArg _ (Equiv.apply_symm_apply _ j).symm

/-- A load of slot `k` reads elements of slot `k`. -/
theorem load_slot_sub (k : ℕ) : commM.view.setOn (slotR k).set ⊆ slotSet k := by
  rw [slot_set, View.set_slice]; exact Finset.Subset.refl _

/-! ## The sending buffers -/

theorem src_disjoint (b b' : Fin 4) (h : b ≠ b') : Disjoint (srcR b.val).set (srcR b'.val).set := by
  refine Rect.unit_disjoint (0 : Fin 2) ?_
  have : b.val ≠ b'.val := fun e => h (Fin.ext e)
  show 64 * (b.val % 4) + 64 ≤ 64 * (b'.val % 4) ∨ 64 * (b'.val % 4) + 64 ≤ 64 * (b.val % 4)
  omega

theorem src_cover : (Finset.univ : Finset (Fin 4)).biUnion (fun b => (srcR b.val).set) = Finset.univ := by
  ext i
  simp only [Finset.mem_biUnion, Finset.mem_univ, true_and, iff_true]
  have h0 : (i 0).val < 256 := (i 0).isLt
  refine ⟨⟨(i 0).val / 64, by omega⟩, ?_⟩
  rw [Rect.mem_set_unit]
  intro a
  match a with
  | ⟨0, _⟩ =>
    show 64 * ((i 0).val / 64 % 4) ≤ (i 0).val ∧ (i 0).val < 64 * ((i 0).val / 64 % 4) + 64
    omega
  | ⟨1, _⟩ => exact ⟨Nat.zero_le _, by show (i 1).val < 0 + 512; have : (i 1).val < 512 := (i 1).isLt; omega⟩

/-- Block `i` of the four buffers' contents `V`: 64 rows of the buffer `i / 4`. -/
def blockOf (V : ℕ → S256x512.Idx → Elt F .bf16) (k : ℕ) : S64x512.Idx → Elt F .bf16 :=
  fun x => V ((k - 1) / 4) ((srcR (k - 1)).emb x)

theorem srcR_congr {i i' : ℕ} (h : i % 4 = i' % 4) : srcR i = srcR i' := by
  have key : ∀ (o o' : Fin 2 → ℕ) (e : o = o') (p : ∀ a, o a + S64x512.size a ≤ S256x512.size a) (p' : ∀ a, o' a + S64x512.size a ≤ S256x512.size a),
      Rect.unit (s := S256x512) o S64x512.size p = Rect.unit (s := S256x512) o' S64x512.size p' := by
    intro o o' e p p'; subst e; rfl
  exact key _ _ (by rw [h]) _ _

/-- The rows of transfer `k`, named by buffer and block. -/
theorem send_block (V : Dev nD → ℕ → S256x512.Idx → Elt F .bf16) (c : Dev nD) (k j i : ℕ) (hj : (k - 1) / 4 = j) (hi : (k - 1) % 4 = i % 4) :
    (owns (c : Thread nD τ) ((stageM j).slice (srcR i) (fun _ => rfl)) fullShare (fun x => V c j ((srcR i).emb x)) : sProp 𝕄)
      = sendPay (fun d => blockOf (V d)) c k := by
  subst hj
  unfold sendPay blockOf
  have key : ∀ r r' : Rect S256x512, r = r' → ∀ (h : ∀ a, r.stride a = 1) (h' : ∀ a, r'.stride a = 1),
      HEq (owns (c : Thread nD τ) ((stageM ((k - 1) / 4)).slice r h) fullShare (fun x => V c ((k - 1) / 4) (r.emb x)) : sProp 𝕄)
        (owns (c : Thread nD τ) ((stageM ((k - 1) / 4)).slice r' h') fullShare (fun x => V c ((k - 1) / 4) (r'.emb x)) : sProp 𝕄) := by
    intro r r' e h h'; subst e; exact HEq.rfl
  exact eq_of_heq (key _ _ (srcR_congr hi.symm) _ _)

/-- A sending buffer held at `V` is its four blocks, each held at its rows of `V`. -/
theorem stage_split (V : Dev nD → ℕ → S256x512.Idx → Elt F .bf16) (c : Dev nD) (j : ℕ) (f : (stageM j).view.ty.Contents (Elt F))
    (hf : (stageM j).view.read (Elt F) f = V c j) :
    ((stageM j).view.loc (c : Thread nD τ) ↦[(stageM j).view.set]{fullShare} f : sProp 𝕄)
      ⊢ bigSep (Finset.Ico (4 * j + 1) (4 * j + 1 + 4)) (fun k => sendPay (fun d => blockOf (V d)) c k) := by
  rw [pointsTo_rects (c : Thread nD τ) (stageM j) fullShare (fun b : Fin 4 => srcR b.val) (fun _ _ => rfl) src_disjoint src_cover f, bigSep_Ico_from]
  refine bigSep_mono fun b _ => ?_
  have e1 : (4 * j + 1 + b.val - 1) / 4 = j := by have := b.isLt; omega
  have e2 : (4 * j + 1 + b.val - 1) % 4 = b.val % 4 := by omega
  rw [hf]
  exact Entails.of_eq (send_block V c (4 * j + 1 + b.val) j b.val e1 e2)

/-- A non-empty family of disjoint parts of a buffer, each at some contents, is their union at some contents. -/
theorem parts_join {ℓ : Loc nD τ sig} {n : ℕ} (I : Fin (n + 1) → Finset (Idx ℓ)) (hd : ∀ b b', b ≠ b' → Disjoint (I b) (I b')) (S : Finset (Idx ℓ))
    (hS : Finset.univ.biUnion I = S) :
    bigSep Finset.univ (fun b => iprop(∃ f, ℓ ↦[I b]{fullShare} f)) ⊢ (iprop(∃ g, ℓ ↦[S]{fullShare} g) : sProp 𝕄) := by
  rw [fam_take (Finset.mem_univ (0 : Fin (n + 1)))]
  iintro ⟨⟨%f, H0⟩, HS⟩
  iapply (Ring.pointsTo_sub_blocks_join_exists I hd S hS f)
  rw [fam_take (Finset.mem_univ (0 : Fin (n + 1)))]
  isplitl [H0]; · iexists f; iexact H0
  iexact HS

/-- The four blocks of a sending buffer make the buffer again, at some contents. -/
theorem stage_join (V : Dev nD → ℕ → S256x512.Idx → Elt F .bf16) (c : Dev nD) (j : ℕ) :
    bigSep (Finset.Ico (4 * j + 1) (4 * j + 1 + 4)) (fun k => (sendPay (fun d => blockOf (V d)) c k : sProp 𝕄))
      ⊢ iprop(∃ f, (stageM j).view.loc (c : Thread nD τ) ↦[(stageM j).view.set]{fullShare} f) := by
  have hone (b : Fin 4) : (sendPay (fun d => blockOf (V d)) c (4 * j + 1 + b.val) : sProp 𝕄)
      ⊢ iprop(∃ f, (stageM j).view.loc (c : Thread nD τ) ↦[((stageM j).view.slice (srcR b.val)).set]{fullShare} f) := by
    rw [← send_block V c (4 * j + 1 + b.val) j b.val (by have := b.isLt; omega) (by omega)]
    unfold owns
    iintro ⟨%f, -, H⟩; iexists f; iexact H
  rw [bigSep_Ico_from]
  have hset : (Finset.univ : Finset (Fin 4)).biUnion (fun b => ((stageM j).view.slice (srcR b.val)).set) = (stageM j).view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (src_cover.symm ▸ Finset.mem_univ x)
      exact Finset.mem_biUnion.mpr ⟨t, Finset.mem_univ _, by rw [View.set_slice]; exact Finset.mem_map_of_mem _ hx⟩
  have hdis : ∀ b b' : Fin 4, b ≠ b' → Disjoint ((stageM j).view.slice (srcR b.val)).set ((stageM j).view.slice (srcR b'.val)).set :=
    fun b b' h => View.disjoint_slice (src_disjoint b b' h)
  exact (fam_mono Finset.univ fun b _ => hone b).trans (parts_join _ hdis _ hset)

end Cert.Moe

end
-- ==== Proof.Steps.lean ====
/-
# One step of each kind

The program announces itself fifteen times, sends fifteen times, receives fifteen times and waits for its fifteen
transfers: one lemma for each kind of step, at a symbolic number `k`, over a state that says what is still to come
and what is already done.
-/
module

public import proofs.«01_k».proof.Proof.Buffers

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, numbered, and what is known of all of them -/

/-- The exchange's semaphores of one device: the barrier, the sixteen send and the sixteen receive semaphores. -/
def csem (i : Fin 33) : SemLoc sig := if i.val = 0 then .reg barS else .dma ⟨4 + i.val, by show 4 + i.val < 37; have := i.isLt; omega⟩
abbrev kcell (ci : Dev nD × Fin 33) : GSem nD τ sig := ((ci.1 : Thread nD τ), csem ci.2)

def iSend (k : ℕ) : Fin 33 := ⟨1 + k % 16, by omega⟩
def iRecv (k : ℕ) : Fin 33 := ⟨17 + k % 16, by omega⟩

theorem csem_bar : csem 0 = .reg barS := if_pos rfl
theorem csem_send (k : ℕ) : csem (iSend k) = .dma (sendS k) := by
  unfold csem iSend sendS
  rw [if_neg (by show ¬ 1 + k % 16 = 0; omega)]
  exact congrArg SemLoc.dma (Fin.ext (show 4 + (1 + k % 16) = 5 + k % 16 by omega))
theorem csem_recv (k : ℕ) : csem (iRecv k) = .dma (recvS k) := by
  unfold csem iRecv recvS
  rw [if_neg (by show ¬ 17 + k % 16 = 0; omega)]
  exact congrArg SemLoc.dma (Fin.ext (show 4 + (17 + k % 16) = 21 + k % 16 by omega))
theorem kcell_bar (c : Dev nD) : kcell (c, 0) = barCell c := by show ((c : Thread nD τ), csem 0) = _; rw [csem_bar]
theorem kcell_send (c : Dev nD) (k : ℕ) : kcell (c, iSend k) = sendCell c k := by show ((c : Thread nD τ), csem (iSend k)) = _; rw [csem_send]
theorem kcell_recv (c : Dev nD) (k : ℕ) : kcell (c, iRecv k) = recvCell c k := by show ((c : Thread nD τ), csem (iRecv k)) = _; rw [csem_recv]

section Steps

variable (msg : Dev nD → ℕ → S64x512.Idx → Elt F .bf16) (K : Dev nD × Fin 33 → ℕ)

/-- The rounds of all cells of all devices are kept under the names `K`, and round 0 is open at each. -/
def records : sProp 𝕄 :=
  iprop((bigSep Finset.univ fun ci : Dev nD × Fin 33 => cellInv ER (exch msg) (K ci) (kcell ci))
    ∗ bigSep Finset.univ fun ci : Dev nD × Fin 33 => reached ER (kcell ci) 0)

instance records_persistent : BI.Persistent (records msg K) := by unfold records; infer_instance

theorem rec_at (ci : Dev nD × Fin 33) : records msg K ⊢ iprop(cellInv ER (exch msg) (K ci) (kcell ci) ∗ reached ER (kcell ci) 0) := by
  unfold records
  exact BIClass.sep_mono (bigSep_elim (Finset.mem_univ ci)) (bigSep_elim (Finset.mem_univ ci))
theorem rec_bar (c : Dev nD) : records msg K ⊢ iprop(cellInv ER (exch msg) (K (c, 0)) (barCell c) ∗ reached ER (barCell c) 0) := by
  rw [← kcell_bar]; exact rec_at msg K (c, 0)
theorem rec_send (c : Dev nD) (k : ℕ) : records msg K ⊢ iprop(cellInv ER (exch msg) (K (c, iSend k)) (sendCell c k) ∗ reached ER (sendCell c k) 0) := by
  rw [← kcell_send]; exact rec_at msg K (c, iSend k)
theorem rec_recv (c : Dev nD) (k : ℕ) : records msg K ⊢ iprop(cellInv ER (exch msg) (K (c, iRecv k)) (recvCell c k) ∗ reached ER (recvCell c k) 0) := by
  rw [← kcell_recv]; exact rec_at msg K (c, iRecv k)

/-- Device `c`'s core runs `p` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for so far. -/
def owesE (c : Dev nD) (O : CellTallies nD τ sig Unit) : sProp 𝕄 := iprop(∃ W, owes (c : Thread nD τ) O W)

/-! ## Announcing -/

/-- Announcements `k` and later are to come: their duties, and the slots they hand over. -/
def sigState (c : Dev nD) (k : ℕ) : sProp 𝕄 :=
  iprop(owesE c (owedRecv c 1 + owedBar c k)
    ∗ bigSep (Finset.Ico k 16) fun i => iprop(dutyTok ER (barCell (fwd c i)) 0 (16 - i) ∗ slotAny c (16 - i)))

theorem sig_step (c n : Dev nD) (k : ℕ) (hn : n = fwd c k) (h1 : 1 ≤ k) (h2 : k < 16)
    {α : Type} {Q : α → sProp 𝕄} {p : PUnit → Prog (TpuEff nD τ sig (Elt F) Λ₀ .tc) α} {a : ℕ} (ha : a = 1) :
    iprop(records msg K ∗ sigState c k)
      ⊢ iprop((sigState c (k + 1) -∗ run c (p ⟨⟩) Q) -∗ run c (.op (.semSignal (n : Thread nD τ) barS a) p) Q) := by
  subst hn ha
  unfold sigState owesE
  rw [bigSep_Ico_succ_bot h2, owedBar_peel c h2, ← add_assoc]
  iintro ⟨#Hrec, ⟨%W, HO⟩, ⟨Ht, Hs⟩, Hrest⟩
  iintro Hk
  ihave Hr := (rec_bar msg K (fwd c k)) $$ Hrec
  icases Hr with ⟨#HI, #HR⟩
  iapply (Rounds.wp_signal 𝒱₀ ER (exch msg) (c : Thread nD τ) none (dst := (fwd c k : Thread nD τ)) (κ := K (fwd c k, 0))
      (d := 16 - k) (by rw [duties_bar, Finset.mem_Ico]; omega) (amount_bar msg (fwd c k) (16 - k)) () (owedRecv c 1 + owedBar c (k + 1)) rfl)
    $$ [HO Ht Hs]
  · isplitr; · iexact HI
    isplitl [HO]; · iexact HO
    isplitl [Ht]; · iexact Ht
    isplitl [Hs]
    · rw [payload_bar, fwd_fwd c (by omega : k ≤ 16)]; iexact Hs
    iexact HR
  iintro HO
  iapply Hk
  isplitl [HO]; · iexists W; iexact HO
  iexact Hrest

/-! ## The barrier wait -/

/-- The wait at the barrier hands over the fifteen slots to send into, and ends the barrier's use. -/
theorem bar_step (c : Dev nD) {α : Type} {Q : α → sProp 𝕄} {p : PUnit → Prog (TpuEff nD τ sig (Elt F) Λ₀ .tc) α} {a : ℕ} (ha : a = 15) :
    iprop(records msg K ∗ levAts L lv ∗ owesE c (owedRecv c 1) ∗ cred (tallyAt (barCell c) () 15) ∗ atPos ER (barCell c) 0 ∅ 0)
      ⊢ iprop((iprop(owesE c (owedRecv c 1) ∗ semVal (barCell c) 0 ∗ bigSep (Finset.Ico 1 16) (fun k => slotAny (fwd c k) k)) -∗ run c (p ⟨⟩) Q)
          -∗ run c (.op (.semWait barS a) p) Q) := by
  subst ha
  unfold owesE
  iintro ⟨#Hrec, #Hlev, ⟨%W, HO⟩, Hc, Hat⟩ Hk
  ihave Hr := (rec_bar msg K c) $$ Hrec
  icases Hr with ⟨#HI, #HR⟩
  iapply (Rounds.wp_wait_rest_token 𝒱₀ ER (exch msg) (c : Thread nD τ) none (κ := K (c, 0))
      (wpE_semWait_eq 𝒱₀ (c : Thread nD τ) none Set.univ) (Set.mem_univ _) () (O := owedRecv c 1) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar msg c)) $$ Hpay
  imod (Rounds.cell_close ER (exch msg) (Set.mem_univ (K (c, 0))) (fun h => h) (R := 0 + 1) (duties_later msg (barCell c))) $$ [Hat] with Hz
  · isplitr; · iexact HI
    iexact Hat
  iapply Hk
  isplitl [HO]; · iexists _; iexact HO
  isplitl [Hz]; · iexact Hz
  iexact Hp

/-! ## Sending -/

/-- Transfers `k` and later are to come: their duties and the slots they write; the earlier ones are under way. -/
def sendState (c : Dev nD) (k : ℕ) : sProp 𝕄 :=
  iprop(owesE c (owedRecv c k)
    ∗ (bigSep (Finset.Ico k 16) fun i => iprop(dutyTok ER (sendCell c i) 0 0 ∗ dutyTok ER (recvCell (fwd c i) i) 0 0 ∗ slotAny (fwd c i) i))
    ∗ bigSep (Finset.Ico 1 k) fun i => cred (tallyAt (sendCell c i) () N))

/-- A transfer of the rows `src` with contents `X` to `dst` on device `n`, whose two payloads are these rows and the
slots written with the same contents. -/
theorem send_any (c n : Dev nD) (src dst : Memref sig .tc .vmem S64x512 .bf16) (qs qr : Fin 37) (κ₁ κ₂ : ℕ) (X : S64x512.Idx → Elt F .bf16)
    (hs : 0 ∈ (exch msg).duties ((c : Thread nD τ), .dma qs) 0) (hr : 0 ∈ (exch msg).duties ((n : Thread nD τ), .dma qr) 0)
    (hps : (exch msg).payload ((c : Thread nD τ), .dma qs) 0 0 = owns (c : Thread nD τ) src fullShare X)
    (hpr : (exch msg).payload ((n : Thread nD τ), .dma qr) 0 0 = owns (n : Thread nD τ) dst fullShare X)
    (hN : dst.view.amount (.dma qr) = N) (O : CellTallies nD τ sig Unit)
    {hsc : (dst : Memref sig (Dev.tc n : Thread nD τ).2.kind .vmem S64x512 .bf16).view.ref.isScScratch = false}
    {hsrc : src.view.WordExact} {hdst : dst.view.WordExact}
    {hsem : DmaTarget.Typed .vmem (.dma qr) (.remote (Dev.tc n : Thread nD τ) dst (.dma qs) hsc)}
    {α : Type} {Q : α → sProp 𝕄} {p : PUnit → Prog (TpuEff nD τ sig (Elt F) Λ₀ .tc) α} :
    iprop(cellInv ER (exch msg) κ₁ ((c : Thread nD τ), .dma qs) ∗ cellInv ER (exch msg) κ₂ ((n : Thread nD τ), .dma qr)
        ∗ owns (c : Thread nD τ) src fullShare X ∗ (∃ Y, owns (n : Thread nD τ) dst fullShare Y)
        ∗ owesE c (O + tallyAt ((n : Thread nD τ), .dma qr) () N)
        ∗ dutyTok ER ((c : Thread nD τ), .dma qs) 0 0 ∗ reached ER ((c : Thread nD τ), .dma qs) 0
        ∗ dutyTok ER ((n : Thread nD τ), .dma qr) 0 0 ∗ reached ER ((n : Thread nD τ), .dma qr) 0)
      ⊢ iprop((iprop(cred (tallyAt ((c : Thread nD τ), SemLoc.dma qs) () N) ∗ owesE c O) -∗ run c (p ⟨⟩) Q)
          -∗ run c (.op (.enqueueDma src (.remote (Dev.tc n : Thread nD τ) dst (.dma qs) hsc) (.dma qr) hsrc hdst hsem) p) Q) := by
  unfold owns owesE
  iintro ⟨HIs, HIr, ⟨%fs, %hfs, Hsrc⟩, ⟨%Y, %fd, -, Hslot⟩, ⟨%W, HO⟩, Hts, HRs, Htr, HRr⟩ Hk
  iapply (Rounds.wp_send_pointsTo 𝒱₀ ER (exch msg) (c : Thread nD τ) none (κ₁ := κ₁) (κ₂ := κ₂)
    (r₁ := 0) (r₂ := 0) (d₁ := 0) (d₂ := 0) (fd := fd) (fs := fs) hs hr
    () () N hN (amount_dma msg c qs 0) (amount_dma msg n qr 0) O rfl (W := W)
    (by
      rw [hps]; unfold owns
      iintro H; iexists fs; isplitr; · ipureintro; exact hfs
      iexact H)
    (by
      rw [hpr]; unfold owns
      iintro H; iexists (dst.view.write (Elt F) fd (src.view.read (Elt F) fs) Finset.univ); isplitr
      · ipureintro; exact (View.read_write_univ _ _).trans hfs
      iexact H)) $$ [HIs HIr Hsrc Hslot HO Hts HRs Htr HRr]
  · isplitl [HIs]; · iexact HIs
    isplitl [HIr]; · iexact HIr
    isplitl [Hsrc]; · iexact Hsrc
    isplitl [Hslot]; · iexact Hslot
    isplitl [HO]; · iexact HO
    isplitl [Hts]; · iexact Hts
    isplitl [HRs]; · iexact HRs
    isplitl [Htr]; · iexact Htr
    iexact HRr
  iintro ⟨Hc, HO⟩
  iapply Hk
  isplitl [Hc]; · iexact Hc
  iexists W; iexact HO

theorem send_step (c n : Dev nD) (k : ℕ) (hn : n = fwd c k) (h1 : 1 ≤ k) (h2 : k < 16)
    {hsc : (slotM k : Memref sig (Dev.tc n : Thread nD τ).2.kind .vmem S64x512 .bf16).view.ref.isScScratch = false}
    {hsrc : (srcM k).view.WordExact} {hdst : (slotM k).view.WordExact}
    {hsem : DmaTarget.Typed .vmem (.dma (recvS k)) (.remote (Dev.tc n : Thread nD τ) (slotM k) (.dma (sendS k)) hsc)}
    {α : Type} {Q : α → sProp 𝕄} {p : PUnit → Prog (TpuEff nD τ sig (Elt F) Λ₀ .tc) α} :
    iprop(records msg K ∗ sendPay msg c k ∗ sendState c k)
      ⊢ iprop((sendState c (k + 1) -∗ run c (p ⟨⟩) Q)
          -∗ run c (.op (.enqueueDma (srcM k) (.remote (Dev.tc n : Thread nD τ) (slotM k) (.dma (sendS k)) hsc) (.dma (recvS k)) hsrc hdst hsem) p) Q) := by
  subst hn
  unfold sendState
  rw [bigSep_Ico_succ_bot h2, bigSep_Ico_succ_top h1, owedRecv_peel c h2]
  iintro ⟨#Hrec, Hsrc, HO, ⟨⟨Hts, Htr, Hslot⟩, Hrest⟩, Hcr⟩ Hk
  ihave Hr1 := (rec_send msg K c k) $$ Hrec
  icases Hr1 with ⟨#HIs, #HRs⟩
  ihave Hr2 := (rec_recv msg K (fwd c k) k) $$ Hrec
  icases Hr2 with ⟨#HIr, #HRr⟩
  iapply (send_any msg c (fwd c k) (srcM k) (slotM k) (sendS k) (recvS k) (K (c, iSend k)) (K (fwd c k, iRecv k)) (msg c k)
    (by rw [duties_send msg c h1 h2]; exact Finset.mem_singleton_self _) (by rw [duties_recv msg (fwd c k) h1 h2]; exact Finset.mem_singleton_self _)
    (payload_send msg c h1 h2 0) ((payload_recv msg (fwd c k) h1 h2 0).trans (by unfold recvPay; rw [bwd_fwd])) (slot_credit k) (owedRecv c (k + 1)))
    $$ [Hsrc Hslot HO Hts Htr]
  · isplitr; · iexact HIs
    isplitr; · iexact HIr
    isplitl [Hsrc]; · unfold sendPay; iexact Hsrc
    isplitl [Hslot]; · unfold slotAny; iexact Hslot
    isplitl [HO]; · iexact HO
    isplitl [Hts]; · iexact Hts
    isplitr; · iexact HRs
    isplitl [Htr]; · iexact Htr
    iexact HRr
  iintro ⟨Hc, HO⟩
  iapply Hk
  isplitl [HO]; · iexact HO
  isplitl [Hrest]; · iexact Hrest
  isplitl [Hc]; · iexact Hc
  iexact Hcr

/-! ## Receiving -/

/-- The blocks `k` and later are still to be waited for; the earlier receive semaphores are done with. -/
def recvState (c : Dev nD) (k : ℕ) : sProp 𝕄 :=
  iprop(owesE c 0
    ∗ (bigSep (Finset.Ico k 16) fun i => iprop(atPos ER (recvCell c i) 0 ∅ 0 ∗ cred (tallyAt (recvCell c i) () N)))
    ∗ bigSep (Finset.Ico 1 k) fun i => semVal (recvCell c i) 0)

theorem recv_step (c : Dev nD) (k : ℕ) (h1 : 1 ≤ k) (h2 : k < 16) {hsrc : (srcM k).view.WordExact} {hdst : (slotM k).view.WordExact}
    {α : Type} {Q : α → sProp 𝕄} {p : PUnit → Prog (TpuEff nD τ sig (Elt F) Λ₀ .tc) α} :
    iprop(records msg K ∗ recvState c k)
      ⊢ iprop((iprop(recvState c (k + 1) ∗ recvPay msg c k) -∗ run c (p ⟨⟩) Q)
          -∗ run c (.op (.waitDma2 (recvS k) (srcM k) (slotM k) hsrc hdst) p) Q) := by
  unfold recvState owesE
  rw [bigSep_Ico_succ_bot h2, bigSep_Ico_succ_top h1]
  iintro ⟨#Hrec, ⟨%W, HO⟩, ⟨⟨Hat, Hc⟩, Hrest⟩, Hdone⟩ Hk
  ihave Hr := (rec_recv msg K c k) $$ Hrec
  icases Hr with ⟨#HI, #HR⟩
  iapply (Rounds.wp_wait_rest_token 𝒱₀ ER (exch msg) (c : Thread nD τ) none (κ := K (c, iRecv k))
      (wpE_waitDma2_eq 𝒱₀ (c : Thread nD τ) none Set.univ) (Set.mem_univ _) () (O := 0) (W := W) (R := 0) (m := 0) (T := ∅)
      (by rw [expect_recv msg c h1 h2, Nat.zero_add])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv msg c h1 h2)) $$ Hpay
  imod (Rounds.cell_close ER (exch msg) (Set.mem_univ (K (c, iRecv k))) (fun h => h) (R := 0 + 1) (duties_later msg (recvCell c k))) $$ [Hat] with Hz
  · isplitr; · iexact HI
    iexact Hat
  iapply Hk
  isplitr [Hp]
  · isplitl [HO]; · iexists _; iexact HO
    isplitl [Hrest]; · iexact Hrest
    isplitl [Hz]; · iexact Hz
    iexact Hdone
  iexact Hp

/-! ## Waiting for the transfers to have left -/

/-- Transfers `k` and later are still to be waited for; the rows of the earlier ones are back. -/
def waitState (c : Dev nD) (k : ℕ) : sProp 𝕄 :=
  iprop(owesE c 0
    ∗ (bigSep (Finset.Ico k 16) fun i => iprop(atPos ER (sendCell c i) 0 ∅ 0 ∗ cred (tallyAt (sendCell c i) () N)))
    ∗ bigSep (Finset.Ico 1 k) fun i => iprop(semVal (sendCell c i) 0 ∗ sendPay msg c i))

theorem wait_step (c : Dev nD) (k : ℕ) (h1 : 1 ≤ k) (h2 : k < 16) {hsrc : (slotM k).view.WordExact} {hdst : (srcM k).view.WordExact}
    {α : Type} {Q : α → sProp 𝕄} {p : PUnit → Prog (TpuEff nD τ sig (Elt F) Λ₀ .tc) α} :
    iprop(records msg K ∗ waitState msg c k)
      ⊢ iprop((waitState msg c (k + 1) -∗ run c (p ⟨⟩) Q)
          -∗ run c (.op (.waitDma2 (sendS k) (slotM k) (srcM k) hsrc hdst) p) Q) := by
  unfold waitState owesE
  rw [bigSep_Ico_succ_bot h2, bigSep_Ico_succ_top h1]
  iintro ⟨#Hrec, ⟨%W, HO⟩, ⟨⟨Hat, Hc⟩, Hrest⟩, Hdone⟩ Hk
  ihave Hr := (rec_send msg K c k) $$ Hrec
  icases Hr with ⟨#HI, #HR⟩
  ihave Hc := (Entails.of_eq (congrArg (fun n => (cred (tallyAt (sendCell c k) () n) : sProp 𝕄)) (src_credit k).symm)) $$ Hc
  iapply (Rounds.wp_wait_rest_token 𝒱₀ ER (exch msg) (c : Thread nD τ) none (κ := K (c, iSend k))
      (wpE_waitDma2_eq 𝒱₀ (c : Thread nD τ) none Set.univ) (Set.mem_univ _) () (O := 0) (W := W) (R := 0) (m := 0) (T := ∅)
      (by rw [expect_send msg c h1 h2, Nat.zero_add])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send msg c h1 h2)) $$ Hpay
  imod (Rounds.cell_close ER (exch msg) (Set.mem_univ (K (c, iSend k))) (fun h => h) (R := 0 + 1) (duties_later msg (sendCell c k))) $$ [Hat] with Hz
  · isplitr; · iexact HI
    iexact Hat
  iapply Hk
  isplitl [HO]; · iexists _; iexact HO
  isplitl [Hrest]; · iexact Hrest
  isplitl [Hz Hp]
  · isplitl [Hz] <;> iassumption
  iexact Hdone

/-! ## Reading a received block -/

theorem load_slot_step (c : Dev nD) (k : ℕ) {h : View.LoadsAt commM.view (slotR k).toLoadRect}
    {α : Type} {Q : α → sProp 𝕄} {p : Vec F S1x64x512 .bf16 → Prog (TpuEff nD τ sig (Elt F) Λ₀ .tc) α} :
    (recvPay msg c k : sProp 𝕄)
      ⊢ iprop((recvPay msg c k -∗ run c (p (lift1 (msg (bwd c k) k))) Q) -∗ run c (.op (.load commM (slotR k).toLoadRect h) p) Q) := by
  unfold recvPay owns
  iintro ⟨%f, %hf, H⟩ Hk
  iapply (wp_load 𝒱₀ (c : Thread nD τ) none Set.univ (m := commM) (load_slot_sub k)) $$ H
  iintro H
  rw [read_slot k f _ hf]
  iapply Hk
  iexists f
  isplitr; · ipureintro; exact hf
  iexact H

end Steps

end Cert.Moe

end
-- ==== Proof.Contents.lean ====
/-
# What the scratch buffers hold

The body fills the weighted tokens and the expert weights block by block; whatever the buffers held before, the stores
leave one explicit array in each.
-/
module

public import proofs.«01_k».proof.Proof.Steps
public import Idealize.ShloMosaic.Lib.Pointwise.Index

@[expose] public section

noncomputable section

namespace Cert.Moe

open Cert.KernelIdeal Cert.KernelIdeal.Gen
open Idealize.ShloMosaic

/-! ## A store of a rectangle, at an index -/

section Put
variable {Val : EltTy → Type} {sp : Space} {e : EltTy} {m n p q : ℕ}

/-- After a store of `w` at rows `a…`, columns `b…`, the view reads `w` there and what it read before elsewhere. -/
theorem read_put (v : View sig .tc sp (⟨2, ![m, n]⟩ : Shape) e) (a b : ℕ)
    (inb : ∀ d, (![a, b] : Fin 2 → ℕ) d + (⟨2, ![p, q]⟩ : Shape).size d ≤ (⟨2, ![m, n]⟩ : Shape).size d)
    (f : v.ty.Contents Val) (w : (⟨2, ![p, q]⟩ : Shape).Idx → Val e) (i : Fin m) (j : Fin n) :
    v.read Val ((v.slice (Rect.unit (s := (⟨2, ![m, n]⟩ : Shape)) ![a, b] (⟨2, ![p, q]⟩ : Shape).size inb)).write Val f w Finset.univ) (ix2 i j)
      = if h : (a ≤ i.val ∧ i.val < a + p) ∧ (b ≤ j.val ∧ j.val < b + q)
        then w (ix2 ⟨i.val - a, by omega⟩ ⟨j.val - b, by omega⟩) else v.read Val f (ix2 i j) := by
  by_cases h : (a ≤ i.val ∧ i.val < a + p) ∧ (b ≤ j.val ∧ j.val < b + q)
  · rw [dif_pos h]
    have hx : (ix2 i j : (⟨2, ![m, n]⟩ : Shape).Idx)
        = (Rect.unit (s := (⟨2, ![m, n]⟩ : Shape)) ![a, b] (⟨2, ![p, q]⟩ : Shape).size inb).emb
            (ix2 (⟨i.val - a, by omega⟩ : Fin p) (⟨j.val - b, by omega⟩ : Fin q)) := by
      funext d
      match d with
      | ⟨0, _⟩ => exact Fin.ext (show i.val = a + 1 * (i.val - a) by omega)
      | ⟨1, _⟩ => exact Fin.ext (show j.val = b + 1 * (j.val - b) by omega)
    rw [hx]; exact View.read_slice_write_emb _ _ _ (Finset.mem_univ _)
  · rw [dif_neg h]
    refine View.read_slice_write_of_not_mem _ _ _ _ ?_
    intro hm
    obtain ⟨x, -, hx⟩ := Finset.mem_map.mp hm
    have e0 : a + 1 * (x 0).val = i.val := congrArg (fun z : (⟨2, ![m, n]⟩ : Shape).Idx => (z 0).val) hx
    have e1 : b + 1 * (x 1).val = j.val := congrArg (fun z : (⟨2, ![m, n]⟩ : Shape).Idx => (z 1).val) hx
    have l0 : (x 0).val < p := (x 0).isLt
    have l1 : (x 1).val < q := (x 1).isLt
    exact h ⟨⟨by omega, by omega⟩, by omega, by omega⟩

/-- A load of a rectangle reads, at an index, the array at the shifted index. -/
theorem readAt_win (v : View sig .tc sp (⟨2, ![m, n]⟩ : Shape) e) (a b : ℕ)
    (inb : ∀ d, (![a, b] : Fin 2 → ℕ) d + (⟨2, ![p, q]⟩ : Shape).size d ≤ (⟨2, ![m, n]⟩ : Shape).size d)
    (f : v.ty.Contents Val) (i : Fin p) (j : Fin q) :
    v.readAt Val (Rect.unit (s := (⟨2, ![m, n]⟩ : Shape)) ![a, b] (⟨2, ![p, q]⟩ : Shape).size inb).toLoadRect f (ix2 i j)
      = v.read Val f (ix2 ⟨a + i.val, by have := inb 0; have : a + p ≤ m := this; omega⟩ ⟨b + j.val, by have := inb 1; have : b + q ≤ n := this; omega⟩) := by
  rw [View.readAt_apply]
  refine congrArg (v.read Val f) (funext fun d => ?_)
  match d with
  | ⟨0, _⟩ => exact Fin.ext (show a + 1 * i.val = a + i.val by omega)
  | ⟨1, _⟩ => exact Fin.ext (show b + 1 * j.val = b + j.val by omega)

end Put

/-! ## The arrays a device forms -/

variable {F : FTy → Type} [FloatOps F]

/-- The position of device `c` as a word: the program computes it so. -/
def posW (c : Dev nD) : BitVec 32 := Scalar.remsi (Scalar.divsi (Dev.word c) 1#32) 16#32

section Arrays

variable (c : Dev nD) (X : Vec F S1024x256 .f32) (RW : Vec F S256x64 .f32) (IX : Vec F S1024x2 .i32) (EW : Vec F S4x256x512 .f32)

/-- The router's probabilities. -/
def probs : FVec F S1024x64 .f32 := k0_pay1 X RW
/-- The first and the second expert of each token. -/
def col (b : Fin 2) : Vec F S1024x1 .i32 := fun j => IX (ix2 (n0 := 1024) (n1 := 2) (j 0) b)
/-- Their probabilities, and the sum of the two. -/
def g0 : FVec F S1024x1 .f32 := k0_pay4 (probs X RW) (col IX 0)
def g1 : FVec F S1024x1 .f32 := k0_pay5 (probs X RW) (col IX 1)
def gs : FVec F S1024x1 .f32 := k0_pay6 (probs X RW) (col IX 0) (col IX 1)

/-- The weight of each token for expert `l` of device `c`. -/
def wgt (l : ℕ) : FVec F S1024x1 .f32 :=
  divf (addf
      (select (cmpi .eq (k0_pay2 (col IX 0)) (broadcast S1024x1 (Scalar.addi (Scalar.muli (posW c) 4#32) (BitVec.ofNat 32 l)))) (g0 X RW IX)
        (broadcast S1024x1 (Scalar.ofBits .f32 0x00000000#32)))
      (select (cmpi .eq (k0_pay3 (col IX 1)) (broadcast S1024x1 (Scalar.addi (Scalar.muli (posW c) 4#32) (BitVec.ofNat 32 l)))) (g1 X RW IX)
        (broadcast S1024x1 (Scalar.ofBits .f32 0x00000000#32))))
    (gs X RW IX)

/-- The tokens weighted for expert `l`. -/
def xwBlk (l : ℕ) : FVec F S1024x256 .bf16 :=
  shapeCast S1024x256 (truncf .bf16 (mulf (shapeCast S1024x256 X shapeCasts_S1024x256_S1024x256)
    (broadcastTo S1024x256 (wgt c X RW IX l) broadcasts_S1024x1_S1024x256)) bitsLt_bf16_f32) shapeCasts_S1024x256_S1024x256

/-- Expert `l`'s weights, as loaded and as stored. -/
def ewRow (l : ℕ) : Vec F S1x256x512 .f32 := fun j => EW (ix3 (n0 := 4) (n1 := 256) (n2 := 512) ⟨l % 4, by omega⟩ (j 1) (j 2))
def ewBlk (l : ℕ) : FVec F S256x512 .bf16 := k0_pay11 (ewRow EW l)

theorem pay7_eq : k0_pay7 (posW c) (probs X RW) (col IX 0) (col IX 1) X = xwBlk c X RW IX 0 := rfl
theorem pay10_eq : k0_pay10 (posW c) (k0_pay2 (col IX 0)) (k0_pay3 (col IX 1)) (g0 X RW IX) (g1 X RW IX) (gs X RW IX) X = xwBlk c X RW IX 1 := rfl
theorem pay14_eq : k0_pay14 (gs X RW IX) (k0_pay12 (posW c) (k0_pay2 (col IX 0)) (g0 X RW IX)) (k0_pay13 (posW c) (k0_pay3 (col IX 1)) (g1 X RW IX)) X
    = xwBlk c X RW IX 2 := rfl
theorem pay16_eq : k0_pay16 (posW c) (k0_pay2 (col IX 0)) (k0_pay3 (col IX 1)) (g0 X RW IX) (g1 X RW IX) (gs X RW IX) X = xwBlk c X RW IX 3 := rfl

end Arrays

/-- The loads of the inputs read these. -/
theorem load_col (f : Vec F S1024x2 .i32) (b : ℕ) (hb : b < 2) (inb : ∀ d, (![0, b] : Fin 2 → ℕ) d + S1024x1.size d ≤ S1024x2.size d) :
    (Memref.whole cc0_stg2_0 : Memref sig .tc .vmem S1024x2 .i32).view.readAt (Elt F)
      (Rect.unit (s := S1024x2) ![0, b] S1024x1.size inb).toLoadRect f = col f ⟨b, hb⟩ := by
  funext x
  obtain ⟨i, j, rfl⟩ : ∃ (i : Fin 1024) (j : Fin 1), x = ix2 i j := ⟨x 0, x 1, eq_ix2 x⟩
  rw [readAt_win]
  show f (ix2 _ _) = f (ix2 _ _)
  have := j.isLt
  congr 2
  · exact Fin.ext (show 0 + i.val = i.val by omega)
  · exact Fin.ext (show b + j.val = b by omega)

theorem load_row (f : Vec F S4x256x512 .f32) (l : ℕ) (hl : l < 4) (inb : ∀ d, (![l, 0, 0] : Fin 3 → ℕ) d + S1x256x512.size d ≤ S4x256x512.size d) :
    (Memref.whole cc0_stg3_0 : Memref sig .tc .vmem S4x256x512 .f32).view.readAt (Elt F)
      (Rect.unit (s := S4x256x512) ![l, 0, 0] S1x256x512.size inb).toLoadRect f = ewRow f l := by
  funext x
  obtain ⟨i, j, k, rfl⟩ : ∃ (i : Fin 1) (j : Fin 256) (k : Fin 512), x = ix3 i j k := ⟨x 0, x 1, x 2, eq_ix3 x⟩
  rw [View.readAt_apply]
  refine congrArg f (funext fun d => ?_)
  have := i.isLt
  match d with
  | ⟨0, _⟩ => exact Fin.ext (show l + 1 * i.val = l % 4 by omega)
  | ⟨1, _⟩ => exact Fin.ext (show 0 + 1 * j.val = j.val by omega)
  | ⟨2, _⟩ => exact Fin.ext (show 0 + 1 * k.val = k.val by omega)

/-! ## The stores, one after another -/

/-- Four column blocks side by side, the first 192 rows repeated below row 1024. -/
def xwOf (B : ℕ → Vec F S1024x256 .bf16) : Vec F S1216x1024 .bf16 :=
  fun j => B ((j 1).val / 256) (ix2 (n0 := 1024) (n1 := 256) ⟨(j 0).val % 1024, by omega⟩ ⟨(j 1).val % 256, by omega⟩)

/-- Four row blocks on top of each other. -/
def ewOf (E : ℕ → Vec F S256x512 .bf16) : Vec F S1024x512 .bf16 :=
  fun j => E ((j 0).val / 256) (ix2 (n0 := 256) (n1 := 512) ⟨(j 0).val % 256, by omega⟩ (j 1))

abbrev xwM : Memref sig .tc .vmem S1216x1024 .bf16 := Memref.whole cc0_scratch0
abbrev ewM : Memref sig .tc .vmem S1024x512 .bf16 := Memref.whole cc0_scratch1

/-- A block store into the weighted tokens. -/
abbrev xwPut (a b : ℕ) {p q : ℕ} (inb : ∀ d, (![a, b] : Fin 2 → ℕ) d + (⟨2, ![p, q]⟩ : Shape).size d ≤ S1216x1024.size d)
    (f : Vec F S1216x1024 .bf16) (w : (⟨2, ![p, q]⟩ : Shape).Idx → Elt F .bf16) : Vec F S1216x1024 .bf16 :=
  (xwM.access (Rect.unit (s := S1216x1024) ![a, b] (⟨2, ![p, q]⟩ : Shape).size inb)).write (Elt F) f w Finset.univ
/-- A block store into the expert weights. -/
abbrev ewPut (a b : ℕ) {p q : ℕ} (inb : ∀ d, (![a, b] : Fin 2 → ℕ) d + (⟨2, ![p, q]⟩ : Shape).size d ≤ S1024x512.size d)
    (f : Vec F S1024x512 .bf16) (w : (⟨2, ![p, q]⟩ : Shape).Idx → Elt F .bf16) : Vec F S1024x512 .bf16 :=
  (ewM.access (Rect.unit (s := S1024x512) ![a, b] (⟨2, ![p, q]⟩ : Shape).size inb)).write (Elt F) f w Finset.univ

theorem xwPut_apply (a b : ℕ) {p q : ℕ} (inb : ∀ d, (![a, b] : Fin 2 → ℕ) d + (⟨2, ![p, q]⟩ : Shape).size d ≤ S1216x1024.size d)
    (f : Vec F S1216x1024 .bf16) (w : (⟨2, ![p, q]⟩ : Shape).Idx → Elt F .bf16) (i : Fin 1216) (j : Fin 1024) :
    xwPut a b inb f w (ix2 i j) = if h : (a ≤ i.val ∧ i.val < a + p) ∧ (b ≤ j.val ∧ j.val < b + q)
        then w (ix2 ⟨i.val - a, by omega⟩ ⟨j.val - b, by omega⟩) else f (ix2 i j) :=
  read_put (Val := Elt F) (View.whole cc0_scratch0) a b inb f w i j
theorem ewPut_apply (a b : ℕ) {p q : ℕ} (inb : ∀ d, (![a, b] : Fin 2 → ℕ) d + (⟨2, ![p, q]⟩ : Shape).size d ≤ S1024x512.size d)
    (f : Vec F S1024x512 .bf16) (w : (⟨2, ![p, q]⟩ : Shape).Idx → Elt F .bf16) (i : Fin 1024) (j : Fin 512) :
    ewPut a b inb f w (ix2 i j) = if h : (a ≤ i.val ∧ i.val < a + p) ∧ (b ≤ j.val ∧ j.val < b + q)
        then w (ix2 ⟨i.val - a, by omega⟩ ⟨j.val - b, by omega⟩) else f (ix2 i j) :=
  read_put (Val := Elt F) (View.whole cc0_scratch1) a b inb f w i j

/-- The four column stores, at an index above row 1024. -/
theorem xw_cols (B : ℕ → Vec F S1024x256 .bf16) (f : Vec F S1216x1024 .bf16) (i : Fin 1216) (j : Fin 1024) (hi : i.val < 1024) :
    xwPut 0 768 inb_S1216x1024_S1024x256_0_768 (xwPut 0 512 inb_S1216x1024_S1024x256_0_512 (xwPut 0 256 inb_S1216x1024_S1024x256_0_256
      (xwPut 0 0 inb_S1216x1024_S1024x256_0_0 f (B 0)) (B 1)) (B 2)) (B 3) (ix2 i j) = xwOf B (ix2 i j) := by
  have hj := j.isLt
  have hB : ∀ l l' : ℕ, l = l' → ∀ x x' : (⟨2, ![1024, 256]⟩ : Shape).Idx, x = x' → B l x = B l' x' := by rintro l _ rfl x _ rfl; rfl
  have fin : ∀ (l : ℕ) (b : ℕ) (hb : b = 256 * l) (h1 : b ≤ j.val) (h2 : j.val < b + 256) (p0 : i.val - 0 < 1024) (p1 : j.val - b < 256),
      B l (ix2 ⟨i.val - 0, p0⟩ ⟨j.val - b, p1⟩) = xwOf B (ix2 i j) := by
    intro l b hb h1 h2 p0 p1
    refine hB _ _ (show l = j.val / 256 by omega) _ _ ?_
    congr 1
    · exact Fin.ext (show i.val - 0 = i.val % 1024 by omega)
    · exact Fin.ext (show j.val - b = j.val % 256 by omega)
  rw [xwPut_apply]
  split
  · rename_i h; exact fin 3 768 rfl h.2.1 h.2.2 _ _
  rw [xwPut_apply]
  split
  · rename_i h; exact fin 2 512 rfl h.2.1 h.2.2 _ _
  rw [xwPut_apply]
  split
  · rename_i h; exact fin 1 256 rfl h.2.1 h.2.2 _ _
  rw [xwPut_apply]
  split
  · rename_i h; exact fin 0 0 rfl h.2.1 h.2.2 _ _
  · omega

/-- All five stores leave the weighted tokens, whatever was there before. -/
theorem xw_chain (B : ℕ → Vec F S1024x256 .bf16) (f g : Vec F S1216x1024 .bf16)
    (hg : g = xwPut 0 768 inb_S1216x1024_S1024x256_0_768 (xwPut 0 512 inb_S1216x1024_S1024x256_0_512 (xwPut 0 256 inb_S1216x1024_S1024x256_0_256
      (xwPut 0 0 inb_S1216x1024_S1024x256_0_0 f (B 0)) (B 1)) (B 2)) (B 3)) :
    xwPut 1024 0 inb_S1216x1024_S192x1024_1024_0 g (k0_pay18 (xwM.view.readAt (Elt F)
      (Rect.unit (s := S1216x1024) ![0, 0] S192x1024.size inb_S1216x1024_S192x1024_0_0).toLoadRect g)) = xwOf B := by
  funext x
  obtain ⟨i, j, rfl⟩ : ∃ (i : Fin 1216) (j : Fin 1024), x = ix2 i j := ⟨x 0, x 1, eq_ix2 x⟩
  have hcast : ∀ w : Vec F S192x1024 .bf16, k0_pay18 w = w := fun w => by
    funext y
    show w _ = w _
    exact congrArg w (Shape.reshapeEquiv_self _ y)
  rw [xwPut_apply, hcast]
  split
  · rename_i h
    rw [readAt_win]
    show g (ix2 _ _) = _
    rw [hg, xw_cols]
    · show B _ (ix2 _ _) = B _ (ix2 _ _)
      congr 1
      · show (0 + (j.val - 0)) / 256 = j.val / 256; omega
      congr 1
      · exact Fin.ext (show (0 + (i.val - 1024)) % 1024 = i.val % 1024 by omega)
      · exact Fin.ext (show (0 + (j.val - 0)) % 256 = j.val % 256 by omega)
    · show 0 + (i.val - 1024) < 1024; omega
  · have := i.isLt; have := j.isLt
    rw [hg, xw_cols _ _ _ _ (by omega)]

/-- The four stores leave the expert weights, whatever was there before. -/
theorem ew_chain (E : ℕ → Vec F S256x512 .bf16) (f : Vec F S1024x512 .bf16) :
    ewPut 768 0 inb_S1024x512_S256x512_768_0 (ewPut 512 0 inb_S1024x512_S256x512_512_0 (ewPut 256 0 inb_S1024x512_S256x512_256_0
      (ewPut 0 0 inb_S1024x512_S256x512_0_0 f (E 0)) (E 1)) (E 2)) (E 3) = ewOf E := by
  funext x
  obtain ⟨i, j, rfl⟩ : ∃ (i : Fin 1024) (j : Fin 512), x = ix2 i j := ⟨x 0, x 1, eq_ix2 x⟩
  have hi := i.isLt
  have hj := j.isLt
  have hE : ∀ l l' : ℕ, l = l' → ∀ x x' : (⟨2, ![256, 512]⟩ : Shape).Idx, x = x' → E l x = E l' x' := by rintro l _ rfl x _ rfl; rfl
  have fin : ∀ (l : ℕ) (a : ℕ) (ha : a = 256 * l) (h1 : a ≤ i.val) (h2 : i.val < a + 256) (p0 : i.val - a < 256) (p1 : j.val - 0 < 512),
      E l (ix2 ⟨i.val - a, p0⟩ ⟨j.val - 0, p1⟩) = ewOf E (ix2 i j) := by
    intro l a ha h1 h2 p0 p1
    refine hE _ _ (show l = i.val / 256 by omega) _ _ ?_
    congr 1
    exact Fin.ext (show i.val - a = i.val % 256 by omega)
  rw [ewPut_apply]
  split
  · rename_i h; exact fin 3 768 rfl h.1.1 h.1.2 _ _
  rw [ewPut_apply]
  split
  · rename_i h; exact fin 2 512 rfl h.1.1 h.1.2 _ _
  rw [ewPut_apply]
  split
  · rename_i h; exact fin 1 256 rfl h.1.1 h.1.2 _ _
  rw [ewPut_apply]
  split
  · rename_i h; exact fin 0 0 rfl h.1.1 h.1.2 _ _
  · omega

/-! ## The windows, the blocks sent, the result -/

/-- The 256 rows of the weighted tokens that start at row `o`. -/
def winOf (B : ℕ → Vec F S1024x256 .bf16) (o : ℕ) : Vec F S256x1024 .bf16 :=
  fun j => B ((j 1).val / 256) (ix2 (n0 := 1024) (n1 := 256) ⟨(o + (j 0).val) % 1024, by omega⟩ ⟨(j 1).val % 256, by omega⟩)

theorem read_win (B : ℕ → Vec F S1024x256 .bf16) (o : ℕ) (off : Fin 2 → ℕ) (ho : off = ![o, 0])
    (inb : ∀ d, off d + S256x1024.size d ≤ S1216x1024.size d) :
    xwM.view.readAt (Elt F) (Rect.unit (s := S1216x1024) off S256x1024.size inb).toLoadRect (xwOf B) = winOf B o := by
  subst ho
  funext x
  obtain ⟨i, j, rfl⟩ : ∃ (i : Fin 256) (j : Fin 1024), x = ix2 i j := ⟨x 0, x 1, eq_ix2 x⟩
  rw [readAt_win]
  show B _ (ix2 _ _) = B _ (ix2 _ _)
  congr 1
  · show (0 + j.val) / 256 = j.val / 256; omega
  congr 1
  · exact Fin.ext (show (0 + j.val) % 256 = j.val % 256 by omega)

/-- The row at which device `c`'s window `j` starts. -/
def winRow (c : Dev nD) (j : ℕ) : ℕ := 64 * ((c.val + 4 * j + 1) % 16)

/-- What device `c` stores in its sending buffer `j`. -/
def stageOf (c : Dev nD) (B : ℕ → Vec F S1024x256 .bf16) (E : ℕ → Vec F S256x512 .bf16) (j : ℕ) : FVec F S256x512 .bf16 :=
  k0_pay19 (winOf B (winRow c j)) (ewOf E)

/-- The sum device `c` stores: its own block, then the fifteen received ones in turn. -/
def outOf (c : Dev nD) (B : ℕ → Vec F S1024x256 .bf16) (E : ℕ → Vec F S256x512 .bf16) (r : ℕ → Vec F S1x64x512 .bf16) : FVec F S64x512 .f32 :=
  k0_pay30 (k0_pay29 (k0_pay28 (k0_pay27 (k0_pay26 (k0_pay25 (k0_pay24 (k0_pay22 (winOf B (winRow c 3)) (ewOf E)) (r 1)) (r 2) (r 3)) (r 4) (r 5) (r 6))
    (r 7) (r 8)) (r 9) (r 10) (r 11)) (r 12) (r 13)) (r 14) (r 15)

end Cert.Moe

end
-- ==== Proof.Composite.lean ====
/-
# Composite steps

What the parts of the body repeat, each once: announcing and sending with the state's families, forming one sending
buffer, waiting for a block and reading it.
-/
module

public import proofs.«01_k».proof.Proof.Contents

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev aX : Memref sig .tc .vmem S1024x256 .f32 := Memref.whole cc0_stg0_0
abbrev aR : Memref sig .tc .vmem S256x64 .f32 := Memref.whole cc0_stg1_0
abbrev aI : Memref sig .tc .vmem S1024x2 .i32 := Memref.whole cc0_stg2_0
abbrev aE : Memref sig .tc .vmem S4x256x512 .f32 := Memref.whole cc0_stg3_0
abbrev aO : Memref sig .tc .vmem S64x512 .f32 := Memref.whole cc0_stg4_0
abbrev b0 : Memref sig .tc .vmem S256x512 .bf16 := Memref.whole cc0_scratch2
abbrev b1 : Memref sig .tc .vmem S256x512 .bf16 := Memref.whole cc0_scratch3
abbrev b2 : Memref sig .tc .vmem S256x512 .bf16 := Memref.whole cc0_scratch4
abbrev b3 : Memref sig .tc .vmem S256x512 .bf16 := Memref.whole cc0_scratch5
abbrev barV : Sems sig S_ := SemArray.scalar (sig.barrier 0 rfl)

/-- Device `c`'s buffer `b` holds `f`. -/
abbrev has (c : Dev nD) (b : Ref sig .tc) (f : b.ty.Contents (Elt F)) : sProp 𝕄 := (c : Thread nD τ).loc b ↦{fullShare} f

theorem off_zero : (![0, 0] : Fin 2 → ℕ) = fun _ => 0 := by funext a; match a with | ⟨0, _⟩ => rfl | ⟨1, _⟩ => rfl

/-- Loads of whole buffers read their contents, and a store of the whole result leaves what was stored. -/
theorem load_all_X (f : Vec F S1024x256 .f32) : aX.view.readAt (Elt F)
    (Rect.unit (s := S1024x256) ![0, 0] S1024x256.size inb_S1024x256_S1024x256_0_0).toLoadRect f = f := Memref.readAt_unit_zero (Elt F) cc0_stg0_0 off_zero _ f
theorem load_all_R (f : Vec F S256x64 .f32) : aR.view.readAt (Elt F)
    (Rect.unit (s := S256x64) ![0, 0] S256x64.size inb_S256x64_S256x64_0_0).toLoadRect f = f := Memref.readAt_unit_zero (Elt F) cc0_stg1_0 off_zero _ f
theorem load_all_E (f : Vec F S1024x512 .bf16) : ewM.view.readAt (Elt F)
    (Rect.unit (s := S1024x512) ![0, 0] S1024x512.size inb_S1024x512_S1024x512_0_0).toLoadRect f = f := Memref.readAt_unit_zero (Elt F) cc0_scratch1 off_zero _ f
theorem store_all_O (f w : Vec F S64x512 .f32) :
    (aO.access (Rect.unit (s := S64x512) ![0, 0] S64x512.size inb_S64x512_S64x512_0_0)).write (Elt F) f w Finset.univ = w :=
  Memref.write_access_unit_zero_univ (Elt F) cc0_stg4_0 off_zero _ f w

section Composite

variable (msg : Dev nD → ℕ → S64x512.Idx → Elt F .bf16) (K : Dev nD × Fin 33 → ℕ)

/-! ## Announcing -/

/-- The announcing state, with what is known of all cells. -/
def sigAll (c : Dev nD) (k : ℕ) : sProp 𝕄 := iprop(records msg K ∗ sigState c k)

theorem sig_next (c n : Dev nD) (k : ℕ) (hn : n = fwd c k) (h1 : 1 ≤ k) (h2 : k < 16)
    {α : Type} {Q : α → sProp 𝕄} {p : PUnit → Prog (TpuEff nD τ sig (Elt F) Λ₀ .tc) α} {a : ℕ} (ha : a = 1) :
    (sigAll msg K c k : sProp 𝕄) ⊢ iprop((sigAll msg K c (k + 1) -∗ run c (p ⟨⟩) Q) -∗ run c (.op (.semSignal (n : Thread nD τ) barS a) p) Q) := by
  unfold sigAll
  iintro ⟨#Hrec, H⟩ Hk
  iapply (sig_step msg K c n k hn h1 h2 ha) $$ [H]
  · isplitr; · iexact Hrec
    iexact H
  iintro H
  iapply Hk
  isplitr; · iexact Hrec
  iexact H

/-! ## Sending from the rows at hand -/

/-- The rows of the transfers `a` up to `b` are at hand. -/
def srcs (c : Dev nD) (a b : ℕ) : sProp 𝕄 := bigSep (Finset.Ico a b) fun k => sendPay msg c k

/-- The sending state, with the rows up to `b` at hand. -/
def sendAll (c : Dev nD) (k b : ℕ) : sProp 𝕄 := iprop(records msg K ∗ srcs msg c k b ∗ sendState c k)

theorem send_next (c n : Dev nD) (k b : ℕ) (hn : n = fwd c k) (h1 : 1 ≤ k) (h2 : k < 16) (hb : k < b)
    {hsc : (slotM k : Memref sig (Dev.tc n : Thread nD τ).2.kind .vmem S64x512 .bf16).view.ref.isScScratch = false}
    {hsrc : (srcM k).view.WordExact} {hdst : (slotM k).view.WordExact}
    {hsem : DmaTarget.Typed .vmem (.dma (recvS k)) (.remote (Dev.tc n : Thread nD τ) (slotM k) (.dma (sendS k)) hsc)}
    {α : Type} {Q : α → sProp 𝕄} {p : PUnit → Prog (TpuEff nD τ sig (Elt F) Λ₀ .tc) α} :
    (sendAll msg K c k b : sProp 𝕄)
      ⊢ iprop((sendAll msg K c (k + 1) b -∗ run c (p ⟨⟩) Q)
          -∗ run c (.op (.enqueueDma (srcM k) (.remote (Dev.tc n : Thread nD τ) (slotM k) (.dma (sendS k)) hsc) (.dma (recvS k)) hsrc hdst hsem) p) Q) := by
  unfold sendAll srcs
  rw [bigSep_Ico_succ_bot hb]
  iintro ⟨#Hrec, ⟨H1, Hs⟩, H⟩ Hk
  iapply (send_step msg K c n k hn h1 h2) $$ [H H1]
  · isplitr; · iexact Hrec
    isplitl [H1] <;> iassumption
  iintro H
  iapply Hk
  isplitr; · iexact Hrec
  isplitl [Hs] <;> iassumption

/-! ## Receiving and reading -/

/-- The blocks before `k` have arrived and are in their slots. -/
def gotAll (c : Dev nD) (k : ℕ) : sProp 𝕄 := iprop(records msg K ∗ recvState c k ∗ bigSep (Finset.Ico 1 k) fun i => recvPay msg c i)

theorem got_wait (c : Dev nD) (k : ℕ) (h1 : 1 ≤ k) (h2 : k < 16) {hsrc : (srcM k).view.WordExact} {hdst : (slotM k).view.WordExact}
    {α : Type} {Q : α → sProp 𝕄} {p : PUnit → Prog (TpuEff nD τ sig (Elt F) Λ₀ .tc) α} :
    (gotAll msg K c k : sProp 𝕄)
      ⊢ iprop((gotAll msg K c (k + 1) -∗ run c (p ⟨⟩) Q) -∗ run c (.op (.waitDma2 (recvS k) (srcM k) (slotM k) hsrc hdst) p) Q) := by
  unfold gotAll
  rw [bigSep_Ico_succ_top h1]
  iintro ⟨#Hrec, H, Hg⟩ Hk
  iapply (recv_step msg K c k h1 h2) $$ [H]
  · isplitr; · iexact Hrec
    iexact H
  iintro ⟨H, Hp⟩
  iapply Hk
  isplitr; · iexact Hrec
  isplitl [H]; · iexact H
  isplitl [Hp] <;> iassumption

theorem got_load (c : Dev nD) (k j : ℕ) (h1 : 1 ≤ j) (h2 : j < k) {h : View.LoadsAt commM.view (slotR j).toLoadRect}
    {α : Type} {Q : α → sProp 𝕄} {p : Vec F S1x64x512 .bf16 → Prog (TpuEff nD τ sig (Elt F) Λ₀ .tc) α} :
    (gotAll msg K c k : sProp 𝕄)
      ⊢ iprop((gotAll msg K c k -∗ run c (p (lift1 (msg (bwd c j) j))) Q) -∗ run c (.op (.load commM (slotR j).toLoadRect h) p) Q) := by
  unfold gotAll
  rw [fam_take (Finset.mem_Ico.mpr ⟨h1, h2⟩)]
  iintro ⟨#Hrec, H, Hj, Hg⟩ Hk
  iapply (load_slot_step msg c j) $$ Hj
  iintro Hj
  iapply Hk
  isplitr; · iexact Hrec
  isplitl [H]; · iexact H
  isplitl [Hj] <;> iassumption

/-! ## Waiting for the transfers -/

def waitAll (c : Dev nD) (k : ℕ) : sProp 𝕄 := iprop(records msg K ∗ waitState msg c k)

theorem wait_next (c : Dev nD) (k : ℕ) (h1 : 1 ≤ k) (h2 : k < 16) {hsrc : (slotM k).view.WordExact} {hdst : (srcM k).view.WordExact}
    {α : Type} {Q : α → sProp 𝕄} {p : PUnit → Prog (TpuEff nD τ sig (Elt F) Λ₀ .tc) α} :
    (waitAll msg K c k : sProp 𝕄)
      ⊢ iprop((waitAll msg K c (k + 1) -∗ run c (p ⟨⟩) Q) -∗ run c (.op (.waitDma2 (sendS k) (slotM k) (srcM k) hsrc hdst) p) Q) := by
  unfold waitAll
  iintro ⟨#Hrec, H⟩ Hk
  iapply (wait_step msg K c k h1 h2) $$ [H]
  · isplitr; · iexact Hrec
    iexact H
  iintro H
  iapply Hk
  isplitr; · iexact Hrec
  iexact H

end Composite

/-! ## Forming a sending buffer -/

/-- Window `j` of the weighted tokens times the expert weights, stored in the buffer `m`. -/
theorem form_step (c : Dev nD) (B : ℕ → Vec F S1024x256 .bf16) (E : ℕ → Vec F S256x512 .bf16) (j : ℕ) (m : Memref sig .tc .vmem S256x512 .bf16)
    (off : Fin 2 → ℕ) (ho : off = ![winRow c j, 0]) (inb : ∀ d, off d + S256x1024.size d ≤ S1216x1024.size d)
    (P : Vec F S256x1024 .bf16 → Vec F S1024x512 .bf16 → FVec F S256x512 .bf16) (hP : P = k0_pay19)
    {hl1 : View.LoadsAt xwM.view (Rect.unit (s := S1216x1024) off S256x1024.size inb).toLoadRect}
    {hl2 : View.LoadsAt ewM.view (Rect.unit (s := S1024x512) ![0, 0] S1024x512.size inb_S1024x512_S1024x512_0_0).toLoadRect}
    {hl3 : View.LoadsAt m.view (Rect.unit (s := S256x512) ![0, 0] S256x512.size inb_S256x512_S256x512_0_0).toLoadRect}
    {hs1 : (m.access (Rect.unit (s := S256x512) ![0, 0] S256x512.size inb_S256x512_S256x512_0_0)).Stores Finset.univ} {hs2}
    {α : Type} {Q : α → sProp 𝕄} {p : Vec F S256x1024 .bf16 → Vec F S1024x512 .bf16 → PUnit → Prog (TpuEff nD τ sig (Elt F) Λ₀ .tc) α} :
    iprop(has c cc0_scratch0 (xwOf B) ∗ has c cc0_scratch1 (ewOf E) ∗ ∃ f, m.view.loc (c : Thread nD τ) ↦[m.view.set]{fullShare} f)
      ⊢ iprop((iprop(has c cc0_scratch0 (xwOf B) ∗ has c cc0_scratch1 (ewOf E)
            ∗ ∃ f, ⌜m.view.read (Elt F) f = stageOf c B E j⌝ ∗ m.view.loc (c : Thread nD τ) ↦[m.view.set]{fullShare} f)
              -∗ run c (p (winOf B (winRow c j)) (ewOf E) ⟨⟩) Q)
          -∗ run c (.op (.load xwM (Rect.unit (s := S1216x1024) off S256x1024.size inb).toLoadRect hl1) fun v =>
              .op (.load ewM (Rect.unit (s := S1024x512) ![0, 0] S1024x512.size inb_S1024x512_S1024x512_0_0).toLoadRect hl2) fun v' =>
              .op (.load m (Rect.unit (s := S256x512) ![0, 0] S256x512.size inb_S256x512_S256x512_0_0).toLoadRect hl3) fun _ =>
              .op (.store m (Rect.unit (s := S256x512) ![0, 0] S256x512.size inb_S256x512_S256x512_0_0) (P v v') Finset.univ hs1 hs2) (p v v')) Q) := by
  subst hP
  iintro ⟨HX, HE, ⟨%f, Hm⟩⟩ Hk
  iapply (wp_load 𝒱₀ (c : Thread nD τ) none Set.univ (m := xwM) (Finset.subset_univ _)) $$ HX
  iintro HX
  rw [read_win B (winRow c j) off ho]
  iapply (wp_load 𝒱₀ (c : Thread nD τ) none Set.univ (m := ewM) (Finset.subset_univ _)) $$ HE
  iintro HE
  rw [load_all_E]
  iapply (wp_load 𝒱₀ (c : Thread nD τ) none Set.univ (m := m) (View.setOn_subset_set (v := m.view) _)) $$ Hm
  iintro Hm
  iapply (wp_store 𝒱₀ (c : Thread nD τ) none Set.univ (m := m) (r := (Rect.unit (s := S256x512) ![0, 0] S256x512.size inb_S256x512_S256x512_0_0)) (S := m.view.set)
    ((View.setOn_subset_set (v := m.access (Rect.unit (s := S256x512) ![0, 0] S256x512.size inb_S256x512_S256x512_0_0)) Finset.univ).trans (View.set_slice_subset _ _))) $$ Hm
  iintro Hm
  iapply Hk
  isplitl [HX]; · iexact HX
  isplitl [HE]; · iexact HE
  iexists _
  isplitr; swap; · iexact Hm
  ipureintro
  funext x
  obtain ⟨i, k, rfl⟩ : ∃ (i : Fin 256) (k : Fin 512), x = ix2 i k := ⟨x 0, x 1, eq_ix2 x⟩
  refine (read_put (Val := Elt F) m.view 0 0 inb_S256x512_S256x512_0_0 f _ i k).trans ?_
  have := i.isLt; have := k.isLt
  rw [dif_pos ⟨⟨Nat.zero_le _, by omega⟩, Nat.zero_le _, by omega⟩]
  rfl

end Cert.Moe

end
-- ==== Proof.Parts.lean ====
/-
# The parts of the body, before and between the stores

Each part of the printed body, run at a symbolic device: the announcements, the transfers, the arrivals and the final waits.
-/
module

public import proofs.«01_k».proof.Proof.Composite

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (msg : Dev nD → ℕ → S64x512.Idx → Elt F .bf16) (K : Dev nD × Fin 33 → ℕ)
variable {h0 : aX.IsWhole} {h1 : aR.IsWhole} {h2 : aI.IsWhole} {h3 : aE.IsWhole} {h4 : aO.IsWhole} {h5 : xwM.IsWhole} {h6 : ewM.IsWhole}
  {h7 : b0.IsWhole} {h8 : b1.IsWhole} {h9 : b2.IsWhole} {h10 : b3.IsWhole} {h11 : commM.IsWhole}

/-- Announcements 1 to 5. -/
theorem part1 (c : Dev nD) {α : Type} {Q : α → sProp 𝕄} {f : _ → Prog (TpuEff nD τ sig (Elt F) Λ₀ .tc) α} :
    (sigAll msg K c 1 : sProp 𝕄)
      ⊢ iprop((sigAll msg K c 6 -∗ run c (f ⟨c, posW c, barV, Scalar.addi (posW c) 6#32, 16#32⟩) Q) -∗ run c (k0_part1 (F := F) aX h0 aR h1 aI h2 aE h3 aO h4 xwM h5 ewM h6 b0 h7 b1 h8 b2 h9 b3 h10 commM h11 cc0_scratch7 cc0_scratch8 >>= f) Q) := by
  rw [k0_part1_eq_skeleton]
  unfold k0_part1_skel
  simp only [semSignalWord, semWaitWord, Prog.lift, Prog.bind_op, Prog.bind_ret, Prog.pure_eq_ret, wp_deviceId]
  iintro H Hk
  iapply (sig_next msg K c ⟨k0_dev1 c, k0_dev1_lt c⟩ 1 (Fin.ext (k0_dev1_eq c)) (by decide) (by decide) rfl) $$ H
  iintro H
  iapply (sig_next msg K c ⟨k0_dev2 c, k0_dev2_lt c⟩ 2 (Fin.ext (k0_dev2_eq c)) (by decide) (by decide) rfl) $$ H
  iintro H
  iapply (sig_next msg K c ⟨k0_dev3 c, k0_dev3_lt c⟩ 3 (Fin.ext (k0_dev3_eq c)) (by decide) (by decide) rfl) $$ H
  iintro H
  iapply (sig_next msg K c ⟨k0_dev4 c, k0_dev4_lt c⟩ 4 (Fin.ext (k0_dev4_eq c)) (by decide) (by decide) rfl) $$ H
  iintro H
  iapply (sig_next msg K c ⟨k0_dev5 c, k0_dev5_lt c⟩ 5 (Fin.ext (k0_dev5_eq c)) (by decide) (by decide) rfl) $$ H
  iintro H
  iapply Hk; iexact H

/-- Announcements 6 to 11. -/
theorem part2 (c : Dev nD) (v2 w w' : BitVec 32) {α : Type} {Q : α → sProp 𝕄} {f : _ → Prog (TpuEff nD τ sig (Elt F) Λ₀ .tc) α} :
    (sigAll msg K c 6 : sProp 𝕄)
      ⊢ iprop((∀ x, sigAll msg K c 12 -∗ run c (f x) Q) -∗ run c (k0_part2 (F := F) aX h0 aR h1 aI h2 aE h3 aO h4 xwM h5 ewM h6 b0 h7 b1 h8 b2 h9 b3 h10 commM h11 cc0_scratch7 cc0_scratch8 c v2 barV w w' >>= f) Q) := by
  rw [k0_part2_eq_skeleton]
  unfold k0_part2_skel
  simp only [semSignalWord, semWaitWord, Prog.lift, Prog.bind_op, Prog.bind_ret, Prog.pure_eq_ret, wp_deviceId]
  iintro H Hk
  iapply (sig_next msg K c ⟨k0_dev6 c, k0_dev6_lt c⟩ 6 (Fin.ext (k0_dev6_eq c)) (by decide) (by decide) rfl) $$ H
  iintro H
  iapply (sig_next msg K c ⟨k0_dev7 c, k0_dev7_lt c⟩ 7 (Fin.ext (k0_dev7_eq c)) (by decide) (by decide) rfl) $$ H
  iintro H
  iapply (sig_next msg K c ⟨k0_dev8 c, k0_dev8_lt c⟩ 8 (Fin.ext (k0_dev8_eq c)) (by decide) (by decide) rfl) $$ H
  iintro H
  iapply (sig_next msg K c ⟨k0_dev9 c, k0_dev9_lt c⟩ 9 (Fin.ext (k0_dev9_eq c)) (by decide) (by decide) rfl) $$ H
  iintro H
  iapply (sig_next msg K c ⟨k0_dev10 c, k0_dev10_lt c⟩ 10 (Fin.ext (k0_dev10_eq c)) (by decide) (by decide) rfl) $$ H
  iintro H
  iapply (sig_next msg K c ⟨k0_dev11 c, k0_dev11_lt c⟩ 11 (Fin.ext (k0_dev11_eq c)) (by decide) (by decide) rfl) $$ H
  iintro H
  iapply Hk; iexact H

/-- Announcements 12 to 15, and the router's probabilities. -/
theorem part3 (c : Dev nD) (v2 w w' : BitVec 32) (X : Vec F S1024x256 .f32) (RW : Vec F S256x64 .f32) {α : Type} {Q : α → sProp 𝕄} {f : _ → Prog (TpuEff nD τ sig (Elt F) Λ₀ .tc) α} :
    (iprop(sigAll msg K c 12 ∗ has c cc0_stg0_0 X ∗ has c cc0_stg1_0 RW) : sProp 𝕄)
      ⊢ iprop((iprop(sigAll msg K c 16 ∗ has c cc0_stg0_0 X ∗ has c cc0_stg1_0 RW) -∗ run c (f (probs X RW)) Q) -∗ run c (k0_part3 (F := F) aX h0 aR h1 aI h2 aE h3 aO h4 xwM h5 ewM h6 b0 h7 b1 h8 b2 h9 b3 h10 commM h11 cc0_scratch7 cc0_scratch8 c v2 barV w w' >>= f) Q) := by
  rw [k0_part3_eq_skeleton]
  unfold k0_part3_skel
  simp only [semSignalWord, semWaitWord, Prog.lift, Prog.bind_op, Prog.bind_ret, Prog.pure_eq_ret, wp_deviceId]
  iintro ⟨H, HX, HR⟩ Hk
  iapply (sig_next msg K c ⟨k0_dev12 c, k0_dev12_lt c⟩ 12 (Fin.ext (k0_dev12_eq c)) (by decide) (by decide) rfl) $$ H
  iintro H
  iapply (sig_next msg K c ⟨k0_dev13 c, k0_dev13_lt c⟩ 13 (Fin.ext (k0_dev13_eq c)) (by decide) (by decide) rfl) $$ H
  iintro H
  iapply (sig_next msg K c ⟨k0_dev14 c, k0_dev14_lt c⟩ 14 (Fin.ext (k0_dev14_eq c)) (by decide) (by decide) rfl) $$ H
  iintro H
  iapply (sig_next msg K c ⟨k0_dev15 c, k0_dev15_lt c⟩ 15 (Fin.ext (k0_dev15_eq c)) (by decide) (by decide) rfl) $$ H
  iintro H
  iapply (wp_load 𝒱₀ (c : Thread nD τ) none Set.univ (m := aX) (Finset.subset_univ _)) $$ HX
  iintro HX
  iapply (wp_load 𝒱₀ (c : Thread nD τ) none Set.univ (m := aR) (Finset.subset_univ _)) $$ HR
  iintro HR
  rw [load_all_X, load_all_R]
  iapply Hk
  isplitl [H]; · iexact H
  isplitl [HX] <;> iassumption

/-- Transfers 1 to 3. -/
theorem part8 (c : Dev nD) (w : BitVec 32) {α : Type} {Q : α → sProp 𝕄} {f : _ → Prog (TpuEff nD τ sig (Elt F) Λ₀ .tc) α} :
    (sendAll msg K c 1 5 : sProp 𝕄)
      ⊢ iprop((∀ x, sendAll msg K c 4 5 -∗ run c (f x) Q) -∗ run c (k0_part8 (F := F) aX h0 aR h1 aI h2 aE h3 aO h4 xwM h5 ewM h6 b0 h7 b1 h8 b2 h9 b3 h10 commM h11 cc0_scratch7 cc0_scratch8 c w >>= f) Q) := by
  rw [k0_part8_eq_skeleton]
  unfold k0_part8_skel
  simp only [semSignalWord, semWaitWord, Prog.lift, Prog.bind_op, Prog.bind_ret, Prog.pure_eq_ret, wp_deviceId]
  iintro H Hk
  iapply (send_next msg K c ⟨k0_dev16 c, k0_dev16_lt c⟩ 1 5 (Fin.ext (k0_dev16_eq c)) (by decide) (by decide) (by decide)) $$ H
  iintro H
  iapply (send_next msg K c ⟨k0_dev17 c, k0_dev17_lt c⟩ 2 5 (Fin.ext (k0_dev17_eq c)) (by decide) (by decide) (by decide)) $$ H
  iintro H
  iapply (send_next msg K c ⟨k0_dev18 c, k0_dev18_lt c⟩ 3 5 (Fin.ext (k0_dev18_eq c)) (by decide) (by decide) (by decide)) $$ H
  iintro H
  iapply Hk; iexact H

/-- Transfers 6 and 7. -/
theorem part10 (c : Dev nD) (w w' w'' : BitVec 32) {α : Type} {Q : α → sProp 𝕄} {f : _ → Prog (TpuEff nD τ sig (Elt F) Λ₀ .tc) α} :
    (sendAll msg K c 6 9 : sProp 𝕄)
      ⊢ iprop((∀ x, sendAll msg K c 8 9 -∗ run c (f x) Q) -∗ run c (k0_part10 (F := F) aX h0 aR h1 aI h2 aE h3 aO h4 xwM h5 ewM h6 b0 h7 b1 h8 b2 h9 b3 h10 commM h11 cc0_scratch7 cc0_scratch8 c w w' w'' >>= f) Q) := by
  rw [k0_part10_eq_skeleton]
  unfold k0_part10_skel
  simp only [semSignalWord, semWaitWord, Prog.lift, Prog.bind_op, Prog.bind_ret, Prog.pure_eq_ret, wp_deviceId]
  iintro H Hk
  iapply (send_next msg K c ⟨k0_dev21 c, k0_dev21_lt c⟩ 6 9 (Fin.ext (k0_dev21_eq c)) (by decide) (by decide) (by decide)) $$ H
  iintro H
  iapply (send_next msg K c ⟨k0_dev22 c, k0_dev22_lt c⟩ 7 9 (Fin.ext (k0_dev22_eq c)) (by decide) (by decide) (by decide)) $$ H
  iintro H
  iapply Hk; iexact H

/-- Transfers 10 to 12. -/
theorem part12 (c : Dev nD) (w w' w'' : BitVec 32) {α : Type} {Q : α → sProp 𝕄} {f : _ → Prog (TpuEff nD τ sig (Elt F) Λ₀ .tc) α} :
    (sendAll msg K c 10 13 : sProp 𝕄)
      ⊢ iprop((∀ x, sendAll msg K c 13 13 -∗ run c (f x) Q) -∗ run c (k0_part12 (F := F) aX h0 aR h1 aI h2 aE h3 aO h4 xwM h5 ewM h6 b0 h7 b1 h8 b2 h9 b3 h10 commM h11 cc0_scratch7 cc0_scratch8 c w w' w'' >>= f) Q) := by
  rw [k0_part12_eq_skeleton]
  unfold k0_part12_skel
  simp only [semSignalWord, semWaitWord, Prog.lift, Prog.bind_op, Prog.bind_ret, Prog.pure_eq_ret, wp_deviceId]
  iintro H Hk
  iapply (send_next msg K c ⟨k0_dev25 c, k0_dev25_lt c⟩ 10 13 (Fin.ext (k0_dev25_eq c)) (by decide) (by decide) (by decide)) $$ H
  iintro H
  iapply (send_next msg K c ⟨k0_dev26 c, k0_dev26_lt c⟩ 11 13 (Fin.ext (k0_dev26_eq c)) (by decide) (by decide) (by decide)) $$ H
  iintro H
  iapply (send_next msg K c ⟨k0_dev27 c, k0_dev27_lt c⟩ 12 13 (Fin.ext (k0_dev27_eq c)) (by decide) (by decide) (by decide)) $$ H
  iintro H
  iapply Hk; iexact H

/-- The block received as number `k`, as it is loaded. -/
abbrev rcv (c : Dev nD) (k : ℕ) : Vec F S1x64x512 .bf16 := lift1 (msg (bwd c k) k)

/-- Blocks 2 and 3. -/
theorem part15 (c : Dev nD) (w0 w1 w2 w3 : BitVec 32) (v : FVec F S64x512 .f32) {α : Type} {Q : α → sProp 𝕄} {f : _ → Prog (TpuEff nD τ sig (Elt F) Λ₀ .tc) α} :
    (gotAll msg K c 2 : sProp 𝕄)
      ⊢ iprop((gotAll msg K c 5 -∗ run c (f (k0_pay25 v (rcv msg c 2) (rcv msg c 3))) Q) -∗ run c (k0_part15 (F := F) aX h0 aR h1 aI h2 aE h3 aO h4 xwM h5 ewM h6 b0 h7 b1 h8 b2 h9 b3 h10 commM h11 cc0_scratch7 cc0_scratch8 w0 w1 v w2 w3 >>= f) Q) := by
  rw [k0_part15_eq_skeleton]
  unfold k0_part15_skel
  simp only [semSignalWord, semWaitWord, Prog.lift, Prog.bind_op, Prog.bind_ret, Prog.pure_eq_ret, wp_deviceId]
  iintro H Hk
  iapply (got_wait msg K c 2 (by decide) (by decide)) $$ H
  iintro H
  iapply (got_load msg K c 3 2 (by decide) (by decide)) $$ H
  iintro H
  iapply (got_wait msg K c 3 (by decide) (by decide)) $$ H
  iintro H
  iapply (got_load msg K c 4 3 (by decide) (by decide)) $$ H
  iintro H
  iapply (got_wait msg K c 4 (by decide) (by decide)) $$ H
  iintro H
  iapply Hk; iexact H

/-- Blocks 4 to 6. -/
theorem part16 (c : Dev nD) (w0 w1 w2 : BitVec 32) (v : FVec F S64x512 .f32) {α : Type} {Q : α → sProp 𝕄} {f : _ → Prog (TpuEff nD τ sig (Elt F) Λ₀ .tc) α} :
    (gotAll msg K c 5 : sProp 𝕄)
      ⊢ iprop((∀ x y, gotAll msg K c 7 -∗ run c (f ⟨k0_pay26 v (rcv msg c 4) (rcv msg c 5) (rcv msg c 6), x, y⟩) Q) -∗ run c (k0_part16 (F := F) aX h0 aR h1 aI h2 aE h3 aO h4 xwM h5 ewM h6 b0 h7 b1 h8 b2 h9 b3 h10 commM h11 cc0_scratch7 cc0_scratch8 w0 w1 w2 v >>= f) Q) := by
  rw [k0_part16_eq_skeleton]
  unfold k0_part16_skel
  simp only [semSignalWord, semWaitWord, Prog.lift, Prog.bind_op, Prog.bind_ret, Prog.pure_eq_ret, wp_deviceId]
  iintro H Hk
  iapply (got_load msg K c 5 4 (by decide) (by decide)) $$ H
  iintro H
  iapply (got_wait msg K c 5 (by decide) (by decide)) $$ H
  iintro H
  iapply (got_load msg K c 6 5 (by decide) (by decide)) $$ H
  iintro H
  iapply (got_wait msg K c 6 (by decide) (by decide)) $$ H
  iintro H
  iapply (got_load msg K c 7 6 (by decide) (by decide)) $$ H
  iintro H
  iapply Hk; iexact H

/-- Blocks 7 and 8. -/
theorem part17 (c : Dev nD) (w0 w1 w2 w3 : BitVec 32) (v : FVec F S64x512 .f32) {α : Type} {Q : α → sProp 𝕄} {f : _ → Prog (TpuEff nD τ sig (Elt F) Λ₀ .tc) α} :
    (gotAll msg K c 7 : sProp 𝕄)
      ⊢ iprop((gotAll msg K c 10 -∗ run c (f (k0_pay27 v (rcv msg c 7) (rcv msg c 8))) Q) -∗ run c (k0_part17 (F := F) aX h0 aR h1 aI h2 aE h3 aO h4 xwM h5 ewM h6 b0 h7 b1 h8 b2 h9 b3 h10 commM h11 cc0_scratch7 cc0_scratch8 w0 w1 v w2 w3 >>= f) Q) := by
  rw [k0_part17_eq_skeleton]
  unfold k0_part17_skel
  simp only [semSignalWord, semWaitWord, Prog.lift, Prog.bind_op, Prog.bind_ret, Prog.pure_eq_ret, wp_deviceId]
  iintro H Hk
  iapply (got_wait msg K c 7 (by decide) (by decide)) $$ H
  iintro H
  iapply (got_load msg K c 8 7 (by decide) (by decide)) $$ H
  iintro H
  iapply (got_wait msg K c 8 (by decide) (by decide)) $$ H
  iintro H
  iapply (got_load msg K c 9 8 (by decide) (by decide)) $$ H
  iintro H
  iapply (got_wait msg K c 9 (by decide) (by decide)) $$ H
  iintro H
  iapply Hk; iexact H

/-- Blocks 9 to 11. -/
theorem part18 (c : Dev nD) (w0 w1 w2 : BitVec 32) (v : FVec F S64x512 .f32) {α : Type} {Q : α → sProp 𝕄} {f : _ → Prog (TpuEff nD τ sig (Elt F) Λ₀ .tc) α} :
    (gotAll msg K c 10 : sProp 𝕄)
      ⊢ iprop((∀ x y, gotAll msg K c 12 -∗ run c (f ⟨k0_pay28 v (rcv msg c 9) (rcv msg c 10) (rcv msg c 11), x, y⟩) Q) -∗ run c (k0_part18 (F := F) aX h0 aR h1 aI h2 aE h3 aO h4 xwM h5 ewM h6 b0 h7 b1 h8 b2 h9 b3 h10 commM h11 cc0_scratch7 cc0_scratch8 w0 w1 w2 v >>= f) Q) := by
  rw [k0_part18_eq_skeleton]
  unfold k0_part18_skel
  simp only [semSignalWord, semWaitWord, Prog.lift, Prog.bind_op, Prog.bind_ret, Prog.pure_eq_ret, wp_deviceId]
  iintro H Hk
  iapply (got_load msg K c 10 9 (by decide) (by decide)) $$ H
  iintro H
  iapply (got_wait msg K c 10 (by decide) (by decide)) $$ H
  iintro H
  iapply (got_load msg K c 11 10 (by decide) (by decide)) $$ H
  iintro H
  iapply (got_wait msg K c 11 (by decide) (by decide)) $$ H
  iintro H
  iapply (got_load msg K c 12 11 (by decide) (by decide)) $$ H
  iintro H
  iapply Hk; iexact H

/-- Blocks 12 and 13. -/
theorem part19 (c : Dev nD) (w0 w1 w2 w3 : BitVec 32) (v : FVec F S64x512 .f32) {α : Type} {Q : α → sProp 𝕄} {f : _ → Prog (TpuEff nD τ sig (Elt F) Λ₀ .tc) α} :
    (gotAll msg K c 12 : sProp 𝕄)
      ⊢ iprop((gotAll msg K c 15 -∗ run c (f (k0_pay29 v (rcv msg c 12) (rcv msg c 13))) Q) -∗ run c (k0_part19 (F := F) aX h0 aR h1 aI h2 aE h3 aO h4 xwM h5 ewM h6 b0 h7 b1 h8 b2 h9 b3 h10 commM h11 cc0_scratch7 cc0_scratch8 w0 w1 v w2 w3 >>= f) Q) := by
  rw [k0_part19_eq_skeleton]
  unfold k0_part19_skel
  simp only [semSignalWord, semWaitWord, Prog.lift, Prog.bind_op, Prog.bind_ret, Prog.pure_eq_ret, wp_deviceId]
  iintro H Hk
  iapply (got_wait msg K c 12 (by decide) (by decide)) $$ H
  iintro H
  iapply (got_load msg K c 13 12 (by decide) (by decide)) $$ H
  iintro H
  iapply (got_wait msg K c 13 (by decide) (by decide)) $$ H
  iintro H
  iapply (got_load msg K c 14 13 (by decide) (by decide)) $$ H
  iintro H
  iapply (got_wait msg K c 14 (by decide) (by decide)) $$ H
  iintro H
  iapply Hk; iexact H

/-- The waits for transfers 2 to 6. -/
theorem part21 (c : Dev nD) {α : Type} {Q : α → sProp 𝕄} {f : _ → Prog (TpuEff nD τ sig (Elt F) Λ₀ .tc) α} :
    (waitAll msg K c 2 : sProp 𝕄)
      ⊢ iprop((∀ x, waitAll msg K c 7 -∗ run c (f x) Q) -∗ run c (k0_part21 (F := F) aX h0 aR h1 aI h2 aE h3 aO h4 xwM h5 ewM h6 b0 h7 b1 h8 b2 h9 b3 h10 commM h11 cc0_scratch7 cc0_scratch8 >>= f) Q) := by
  rw [k0_part21_eq_skeleton]
  unfold k0_part21_skel
  simp only [semSignalWord, semWaitWord, Prog.lift, Prog.bind_op, Prog.bind_ret, Prog.pure_eq_ret, wp_deviceId]
  iintro H Hk
  iapply (wait_next msg K c 2 (by decide) (by decide)) $$ H
  iintro H
  iapply (wait_next msg K c 3 (by decide) (by decide)) $$ H
  iintro H
  iapply (wait_next msg K c 4 (by decide) (by decide)) $$ H
  iintro H
  iapply (wait_next msg K c 5 (by decide) (by decide)) $$ H
  iintro H
  iapply (wait_next msg K c 6 (by decide) (by decide)) $$ H
  iintro H
  iapply Hk; iexact H

/-- The waits for transfers 7 to 10. -/
theorem part22 (c : Dev nD) {α : Type} {Q : α → sProp 𝕄} {f : _ → Prog (TpuEff nD τ sig (Elt F) Λ₀ .tc) α} :
    (waitAll msg K c 7 : sProp 𝕄)
      ⊢ iprop((∀ x, waitAll msg K c 11 -∗ run c (f x) Q) -∗ run c (k0_part22 (F := F) aX h0 aR h1 aI h2 aE h3 aO h4 xwM h5 ewM h6 b0 h7 b1 h8 b2 h9 b3 h10 commM h11 cc0_scratch7 cc0_scratch8 >>= f) Q) := by
  rw [k0_part22_eq_skeleton]
  unfold k0_part22_skel
  simp only [semSignalWord, semWaitWord, Prog.lift, Prog.bind_op, Prog.bind_ret, Prog.pure_eq_ret, wp_deviceId]
  iintro H Hk
  iapply (wait_next msg K c 7 (by decide) (by decide)) $$ H
  iintro H
  iapply (wait_next msg K c 8 (by decide) (by decide)) $$ H
  iintro H
  iapply (wait_next msg K c 9 (by decide) (by decide)) $$ H
  iintro H
  iapply (wait_next msg K c 10 (by decide) (by decide)) $$ H
  iintro H
  iapply Hk; iexact H

/-- The waits for transfers 11 to 14. -/
theorem part23 (c : Dev nD) {α : Type} {Q : α → sProp 𝕄} {f : _ → Prog (TpuEff nD τ sig (Elt F) Λ₀ .tc) α} :
    (waitAll msg K c 11 : sProp 𝕄)
      ⊢ iprop((∀ x, waitAll msg K c 15 -∗ run c (f x) Q) -∗ run c (k0_part23 (F := F) aX h0 aR h1 aI h2 aE h3 aO h4 xwM h5 ewM h6 b0 h7 b1 h8 b2 h9 b3 h10 commM h11 cc0_scratch7 cc0_scratch8 >>= f) Q) := by
  rw [k0_part23_eq_skeleton]
  unfold k0_part23_skel
  simp only [semSignalWord, semWaitWord, Prog.lift, Prog.bind_op, Prog.bind_ret, Prog.pure_eq_ret, wp_deviceId]
  iintro H Hk
  iapply (wait_next msg K c 11 (by decide) (by decide)) $$ H
  iintro H
  iapply (wait_next msg K c 12 (by decide) (by decide)) $$ H
  iintro H
  iapply (wait_next msg K c 13 (by decide) (by decide)) $$ H
  iintro H
  iapply (wait_next msg K c 14 (by decide) (by decide)) $$ H
  iintro H
  iapply Hk; iexact H

end Cert.Moe

end
-- ==== Proof.Stores.lean ====
/-
# The parts of the body that store

The weighted tokens and the expert weights are put in place, the four sending buffers are formed from them, and the sum is
stored; with the arrivals and transfers in between.
-/
module

public import proofs.«01_k».proof.Proof.Parts

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {h0 : aX.IsWhole} {h1 : aR.IsWhole} {h2 : aI.IsWhole} {h3 : aE.IsWhole} {h4 : aO.IsWhole} {h5 : xwM.IsWhole} {h6 : ewM.IsWhole}
  {h7 : b0.IsWhole} {h8 : b1.IsWhole} {h9 : b2.IsWhole} {h10 : b3.IsWhole} {h11 : commM.IsWhole}

/-! ## Loads of the inputs, stores into the two scratch arrays -/

section Small

variable (c : Dev nD)

theorem get_X {α : Type} {Q : α → sProp 𝕄} (X : Vec F S1024x256 .f32) {h : View.LoadsAt aX.view (Rect.unit (s := S1024x256) ![0, 0] S1024x256.size inb_S1024x256_S1024x256_0_0).toLoadRect} {p : Vec F S1024x256 .f32 → Prog (TpuEff nD τ sig (Elt F) Λ₀ .tc) α} :
    (has c cc0_stg0_0 X : sProp 𝕄) ⊢ iprop((has c cc0_stg0_0 X -∗ run c (p X) Q)
      -∗ run c (.op (.load aX (Rect.unit (s := S1024x256) ![0, 0] S1024x256.size inb_S1024x256_S1024x256_0_0).toLoadRect h) p) Q) := by
  iintro HX Hk
  iapply (wp_load 𝒱₀ (c : Thread nD τ) none Set.univ (m := aX) (Finset.subset_univ _)) $$ HX
  iintro HX
  rw [load_all_X]
  iapply Hk; iexact HX

theorem get_col {α : Type} {Q : α → sProp 𝕄} (IX : Vec F S1024x2 .i32) (b : ℕ) (hb : b < 2) (inb : ∀ d, (![0, b] : Fin 2 → ℕ) d + S1024x1.size d ≤ S1024x2.size d) {h : View.LoadsAt aI.view (Rect.unit (s := S1024x2) ![0, b] S1024x1.size inb).toLoadRect}
    {p : Vec F S1024x1 .i32 → Prog (TpuEff nD τ sig (Elt F) Λ₀ .tc) α} :
    (has c cc0_stg2_0 IX : sProp 𝕄) ⊢ iprop((has c cc0_stg2_0 IX -∗ run c (p (col IX ⟨b, hb⟩)) Q)
      -∗ run c (.op (.load aI (Rect.unit (s := S1024x2) ![0, b] S1024x1.size inb).toLoadRect h) p) Q) := by
  iintro HI Hk
  iapply (wp_load 𝒱₀ (c : Thread nD τ) none Set.univ (m := aI) (Finset.subset_univ _)) $$ HI
  iintro HI
  rw [load_col IX b hb inb]
  iapply Hk; iexact HI

theorem get_row {α : Type} {Q : α → sProp 𝕄} (EW : Vec F S4x256x512 .f32) (l : ℕ) (hl : l < 4) (inb : ∀ d, (![l, 0, 0] : Fin 3 → ℕ) d + S1x256x512.size d ≤ S4x256x512.size d) {h : View.LoadsAt aE.view (Rect.unit (s := S4x256x512) ![l, 0, 0] S1x256x512.size inb).toLoadRect}
    {p : Vec F S1x256x512 .f32 → Prog (TpuEff nD τ sig (Elt F) Λ₀ .tc) α} :
    (has c cc0_stg3_0 EW : sProp 𝕄) ⊢ iprop((has c cc0_stg3_0 EW -∗ run c (p (ewRow EW l)) Q)
      -∗ run c (.op (.load aE (Rect.unit (s := S4x256x512) ![l, 0, 0] S1x256x512.size inb).toLoadRect h) p) Q) := by
  iintro HE Hk
  iapply (wp_load 𝒱₀ (c : Thread nD τ) none Set.univ (m := aE) (Finset.subset_univ _)) $$ HE
  iintro HE
  rw [load_row EW l hl inb]
  iapply Hk; iexact HE

theorem put_xw {α : Type} {Q : α → sProp 𝕄} (a b : ℕ) {p q : ℕ} (inb : ∀ d, (![a, b] : Fin 2 → ℕ) d + (⟨2, ![p, q]⟩ : Shape).size d ≤ S1216x1024.size d)
    (g : Vec F S1216x1024 .bf16) (w : (⟨2, ![p, q]⟩ : Shape).Idx → Elt F .bf16) {h : View.LoadsAt xwM.view (Rect.unit (s := S1216x1024) ![a, b] (⟨2, ![p, q]⟩ : Shape).size inb).toLoadRect} {h' : (xwM.access (Rect.unit (s := S1216x1024) ![a, b] (⟨2, ![p, q]⟩ : Shape).size inb)).Stores Finset.univ} {h''}
    {k : PUnit → Prog (TpuEff nD τ sig (Elt F) Λ₀ .tc) α} :
    (has c cc0_scratch0 g : sProp 𝕄) ⊢ iprop((has c cc0_scratch0 (xwPut a b inb g w) -∗ run c (k ⟨⟩) Q)
      -∗ run c (.op (.load xwM (Rect.unit (s := S1216x1024) ![a, b] (⟨2, ![p, q]⟩ : Shape).size inb).toLoadRect h) fun _ =>
          .op (.store xwM (Rect.unit (s := S1216x1024) ![a, b] (⟨2, ![p, q]⟩ : Shape).size inb) w Finset.univ h' h'') k) Q) := by
  iintro H Hk
  iapply (wp_load 𝒱₀ (c : Thread nD τ) none Set.univ (m := xwM) (Finset.subset_univ _)) $$ H
  iintro H
  iapply (wp_store 𝒱₀ (c : Thread nD τ) none Set.univ (m := xwM) (r := Rect.unit (s := S1216x1024) ![a, b] (⟨2, ![p, q]⟩ : Shape).size inb) (Finset.subset_univ _)) $$ H
  iintro H
  iapply Hk; iexact H

theorem put_ew {α : Type} {Q : α → sProp 𝕄} (a b : ℕ) {p q : ℕ} (inb : ∀ d, (![a, b] : Fin 2 → ℕ) d + (⟨2, ![p, q]⟩ : Shape).size d ≤ S1024x512.size d)
    (g : Vec F S1024x512 .bf16) (w : (⟨2, ![p, q]⟩ : Shape).Idx → Elt F .bf16) {h : View.LoadsAt ewM.view (Rect.unit (s := S1024x512) ![a, b] (⟨2, ![p, q]⟩ : Shape).size inb).toLoadRect} {h' : (ewM.access (Rect.unit (s := S1024x512) ![a, b] (⟨2, ![p, q]⟩ : Shape).size inb)).Stores Finset.univ} {h''}
    {k : PUnit → Prog (TpuEff nD τ sig (Elt F) Λ₀ .tc) α} :
    (has c cc0_scratch1 g : sProp 𝕄) ⊢ iprop((has c cc0_scratch1 (ewPut a b inb g w) -∗ run c (k ⟨⟩) Q)
      -∗ run c (.op (.load ewM (Rect.unit (s := S1024x512) ![a, b] (⟨2, ![p, q]⟩ : Shape).size inb).toLoadRect h) fun _ =>
          .op (.store ewM (Rect.unit (s := S1024x512) ![a, b] (⟨2, ![p, q]⟩ : Shape).size inb) w Finset.univ h' h'') k) Q) := by
  iintro H Hk
  iapply (wp_load 𝒱₀ (c : Thread nD τ) none Set.univ (m := ewM) (Finset.subset_univ _)) $$ H
  iintro H
  iapply (wp_store 𝒱₀ (c : Thread nD τ) none Set.univ (m := ewM) (r := Rect.unit (s := S1024x512) ![a, b] (⟨2, ![p, q]⟩ : Shape).size inb) (Finset.subset_univ _)) $$ H
  iintro H
  iapply Hk; iexact H

end Small

/-! ## Parts 4 to 6: the two arrays -/

section Arrays

variable (X : Vec F S1024x256 .f32) (RW : Vec F S256x64 .f32) (IX : Vec F S1024x2 .i32) (EW : Vec F S4x256x512 .f32)

/-- The tokens and weights as given, and the two arrays formed from them so far. -/
def work (c : Dev nD) (g : Vec F S1216x1024 .bf16) (h : Vec F S1024x512 .bf16) : sProp 𝕄 :=
  iprop(has c cc0_stg0_0 X ∗ has c cc0_stg3_0 EW ∗ has c cc0_scratch0 g ∗ has c cc0_scratch1 h)

/-- The weighted tokens after two and after four of the column stores, the expert weights after two and after three. -/
abbrev xw2 (B : ℕ → Vec F S1024x256 .bf16) (f : Vec F S1216x1024 .bf16) : Vec F S1216x1024 .bf16 :=
  xwPut 0 256 inb_S1216x1024_S1024x256_0_256 (xwPut 0 0 inb_S1216x1024_S1024x256_0_0 f (B 0)) (B 1)
abbrev xw4 (B : ℕ → Vec F S1024x256 .bf16) (f : Vec F S1216x1024 .bf16) : Vec F S1216x1024 .bf16 :=
  xwPut 0 768 inb_S1216x1024_S1024x256_0_768 (xwPut 0 512 inb_S1216x1024_S1024x256_0_512 (xw2 B f) (B 2)) (B 3)
abbrev ew2 (E : ℕ → Vec F S256x512 .bf16) (f : Vec F S1024x512 .bf16) : Vec F S1024x512 .bf16 :=
  ewPut 256 0 inb_S1024x512_S256x512_256_0 (ewPut 0 0 inb_S1024x512_S256x512_0_0 f (E 0)) (E 1)
abbrev ew3 (E : ℕ → Vec F S256x512 .bf16) (f : Vec F S1024x512 .bf16) : Vec F S1024x512 .bf16 :=
  ewPut 512 0 inb_S1024x512_S256x512_512_0 (ew2 E f) (E 2)

/-- The weights of the tokens, and the first expert's column block. -/
theorem part4 (c : Dev nD) (f0 : Vec F S1216x1024 .bf16) (f1 : Vec F S1024x512 .bf16) {α : Type} {Q : α → sProp 𝕄} {f : _ → Prog (TpuEff nD τ sig (Elt F) Λ₀ .tc) α} :
    (iprop(has c cc0_stg2_0 IX ∗ work X EW c f0 f1) : sProp 𝕄)
      ⊢ iprop((iprop(has c cc0_stg2_0 IX ∗ work X EW c (xwPut 0 0 inb_S1216x1024_S1024x256_0_0 f0 (xwBlk c X RW IX 0)) f1) -∗ run c (f ⟨k0_pay2 (col IX 0), k0_pay3 (col IX 1), g0 X RW IX, g1 X RW IX, gs X RW IX, k0_pay8 (ewRow EW 0)⟩) Q) -∗ run c (k0_part4 (F := F) aX h0 aR h1 aI h2 aE h3 aO h4 xwM h5 ewM h6 b0 h7 b1 h8 b2 h9 b3 h10 commM h11 cc0_scratch7 cc0_scratch8 (posW c) (probs X RW) >>= f) Q) := by
  rw [k0_part4_eq_skeleton]
  unfold k0_part4_skel
  simp only [semWaitWord, Prog.lift, Prog.bind_op, Prog.bind_ret, Prog.pure_eq_ret]
  unfold work
  iintro ⟨HI, HX, HE, H0, H1⟩ Hk
  iapply (get_col c IX 0 (by decide)) $$ HI
  iintro HI
  iapply (get_col c IX 1 (by decide)) $$ HI
  iintro HI
  iapply (get_X c X) $$ HX
  iintro HX
  iapply (put_xw c 0 0 (p := 1024) (q := 256) inb_S1216x1024_S1024x256_0_0 f0) $$ H0
  iintro H0
  iapply (get_row c EW 0 (by decide)) $$ HE
  iintro HE
  iapply Hk
  isplitl [HI]; · iexact HI
  isplitl [HX]; · iexact HX
  isplitl [HE]; · iexact HE
  isplitl [H0]; · iexact H0
  iexact H1

/-- The second expert's column block, the first two experts' weights. -/
theorem part5 (c : Dev nD) (f0 : Vec F S1216x1024 .bf16) (f1 : Vec F S1024x512 .bf16) {α : Type} {Q : α → sProp 𝕄} {f : _ → Prog (TpuEff nD τ sig (Elt F) Λ₀ .tc) α} :
    (work X EW c (xwPut 0 0 inb_S1216x1024_S1024x256_0_0 f0 (xwBlk c X RW IX 0)) f1 : sProp 𝕄)
      ⊢ iprop((work X EW c (xw2 (xwBlk c X RW IX) f0) (ew2 (ewBlk EW) f1) -∗ run c (f ⟨k0_pay12 (posW c) (k0_pay2 (col IX 0)) (g0 X RW IX), k0_pay13 (posW c) (k0_pay3 (col IX 1)) (g1 X RW IX)⟩) Q) -∗ run c (k0_part5 (F := F) aX h0 aR h1 aI h2 aE h3 aO h4 xwM h5 ewM h6 b0 h7 b1 h8 b2 h9 b3 h10 commM h11 cc0_scratch7 cc0_scratch8 (posW c) (k0_pay2 (col IX 0)) (k0_pay3 (col IX 1)) (g0 X RW IX) (g1 X RW IX) (gs X RW IX) (k0_pay8 (ewRow EW 0)) >>= f) Q) := by
  rw [k0_part5_eq_skeleton]
  unfold k0_part5_skel
  simp only [semWaitWord, Prog.lift, Prog.bind_op, Prog.bind_ret, Prog.pure_eq_ret]
  unfold work
  iintro ⟨HX, HE, H0, H1⟩ Hk
  iapply (put_ew (p := 256) (q := 512) c 0 0 inb_S1024x512_S256x512_0_0 f1) $$ H1
  iintro H1
  iapply (get_X c X) $$ HX
  iintro HX
  iapply (put_xw c 0 256 (p := 1024) (q := 256) inb_S1216x1024_S1024x256_0_256) $$ H0
  iintro H0
  iapply (get_row c EW 1 (by decide)) $$ HE
  iintro HE
  iapply (put_ew (p := 256) (q := 512) c 256 0 inb_S1024x512_S256x512_256_0) $$ H1
  iintro H1
  iapply Hk
  isplitl [HX]; · iexact HX
  isplitl [HE]; · iexact HE
  isplitl [H0]; · iexact H0
  iexact H1

/-- The third and fourth experts' column blocks, the third expert's weights. -/
theorem part6 (c : Dev nD) (f0 : Vec F S1216x1024 .bf16) (f1 : Vec F S1024x512 .bf16) {α : Type} {Q : α → sProp 𝕄} {f : _ → Prog (TpuEff nD τ sig (Elt F) Λ₀ .tc) α} :
    (work X EW c (xw2 (xwBlk c X RW IX) f0) (ew2 (ewBlk EW) f1) : sProp 𝕄)
      ⊢ iprop((work X EW c (xw4 (xwBlk c X RW IX) f0) (ew3 (ewBlk EW) f1) -∗ run c (f (ewRow EW 3)) Q) -∗ run c (k0_part6 (F := F) aX h0 aR h1 aI h2 aE h3 aO h4 xwM h5 ewM h6 b0 h7 b1 h8 b2 h9 b3 h10 commM h11 cc0_scratch7 cc0_scratch8 (posW c) (k0_pay2 (col IX 0)) (k0_pay3 (col IX 1)) (g0 X RW IX) (g1 X RW IX) (gs X RW IX) (k0_pay12 (posW c) (k0_pay2 (col IX 0)) (g0 X RW IX)) (k0_pay13 (posW c) (k0_pay3 (col IX 1)) (g1 X RW IX)) >>= f) Q) := by
  rw [k0_part6_eq_skeleton]
  unfold k0_part6_skel
  simp only [semWaitWord, Prog.lift, Prog.bind_op, Prog.bind_ret, Prog.pure_eq_ret]
  unfold work
  iintro ⟨HX, HE, H0, H1⟩ Hk
  iapply (get_X c X) $$ HX
  iintro HX
  iapply (put_xw c 0 512 (p := 1024) (q := 256) inb_S1216x1024_S1024x256_0_512) $$ H0
  iintro H0
  iapply (get_row c EW 2 (by decide)) $$ HE
  iintro HE
  iapply (put_ew (p := 256) (q := 512) c 512 0 inb_S1024x512_S256x512_512_0) $$ H1
  iintro H1
  iapply (get_X c X) $$ HX
  iintro HX
  iapply (put_xw c 0 768 (p := 1024) (q := 256) inb_S1216x1024_S1024x256_0_768) $$ H0
  iintro H0
  iapply (get_row c EW 3 (by decide)) $$ HE
  iintro HE
  iapply Hk
  isplitl [HX]; · iexact HX
  isplitl [HE]; · iexact HE
  isplitl [H0]; · iexact H0
  iexact H1

end Arrays

/-! ## Forming the sending buffers -/

section Forming

variable (B : Dev nD → ℕ → Vec F S1024x256 .bf16) (E : Dev nD → ℕ → Vec F S256x512 .bf16) (K : Dev nD × Fin 33 → ℕ)

/-- What device `d` sends in transfer `k`. -/
abbrev msgOf : Dev nD → ℕ → S64x512.Idx → Elt F .bf16 := fun d => blockOf (stageOf d (B d) (E d))

/-- Both arrays are in place. -/
def done (c : Dev nD) : sProp 𝕄 := iprop(has c cc0_scratch0 (xwOf (B c)) ∗ has c cc0_scratch1 (ewOf (E c)))
/-- A buffer with any contents. -/
def free (c : Dev nD) (m : Memref sig .tc .vmem S256x512 .bf16) : sProp 𝕄 := iprop(∃ f, m.view.loc (c : Thread nD τ) ↦[m.view.set]{fullShare} f)

theorem form_all (c : Dev nD) (j a b : ℕ) (ha : a = 4 * j + 1) (hb : b = a + 4) (m : Memref sig .tc .vmem S256x512 .bf16) (hm : m = stageM j)
    (off : Fin 2 → ℕ) (ho : off = ![winRow c j, 0]) (inb : ∀ d, off d + S256x1024.size d ≤ S1216x1024.size d)
    (P : Vec F S256x1024 .bf16 → Vec F S1024x512 .bf16 → FVec F S256x512 .bf16) (hP : P = k0_pay19) {hl1 hl2 hl3 hs1 hs2}
    {α : Type} {Q : α → sProp 𝕄} {p : Vec F S256x1024 .bf16 → Vec F S1024x512 .bf16 → PUnit → Prog (TpuEff nD τ sig (Elt F) Λ₀ .tc) α} :
    (iprop(done B E c ∗ free c m) : sProp 𝕄)
      ⊢ iprop((iprop(done B E c ∗ srcs (msgOf B E) c a b) -∗ run c (p (winOf (B c) (winRow c j)) (ewOf (E c)) ⟨⟩) Q)
          -∗ run c (.op (.load xwM (Rect.unit (s := S1216x1024) off S256x1024.size inb).toLoadRect hl1) fun v =>
              .op (.load ewM (Rect.unit (s := S1024x512) ![0, 0] S1024x512.size inb_S1024x512_S1024x512_0_0).toLoadRect hl2) fun v' =>
              .op (.load m (Rect.unit (s := S256x512) ![0, 0] S256x512.size inb_S256x512_S256x512_0_0).toLoadRect hl3) fun _ =>
              .op (.store m (Rect.unit (s := S256x512) ![0, 0] S256x512.size inb_S256x512_S256x512_0_0) (P v v') Finset.univ hs1 hs2) (p v v')) Q) := by
  subst hb ha
  unfold done free
  iintro ⟨⟨H0, H1⟩, Hm⟩ Hk
  iapply (form_step c (B c) (E c) j m off ho inb P hP) $$ [H0 H1 Hm]
  · isplitl [H0]; · iexact H0
    isplitl [H1] <;> iassumption
  iintro ⟨H0, H1, ⟨%f, %hf, Hm⟩⟩
  iapply Hk
  isplitl [H0 H1]; · isplitl [H0] <;> iassumption
  subst hm
  unfold srcs
  iapply (stage_split (fun d => stageOf d (B d) (E d)) c j f hf)
  iexact Hm

/-- The rows just formed are at hand for the transfers to come. -/
theorem refill (msg : Dev nD → ℕ → S64x512.Idx → Elt F .bf16) (c : Dev nD) (k b : ℕ) :
    (iprop(sendAll msg K c k k ∗ srcs msg c k b) : sProp 𝕄) ⊢ sendAll msg K c k b := by
  unfold sendAll
  iintro ⟨⟨#Hrec, -, H⟩, Hs⟩
  isplitr; · iexact Hrec
  isplitl [Hs] <;> iassumption

/-- The last stores, the barrier, and the first sending buffer. -/
theorem part7 (c : Dev nD) (X : Vec F S1024x256 .f32) (EW : Vec F S4x256x512 .f32) (hE : E c = ewBlk EW) (f0 : Vec F S1216x1024 .bf16) (f1 : Vec F S1024x512 .bf16) (v2 : BitVec 32) {α : Type} {Q : α → sProp 𝕄} {f : _ → Prog (TpuEff nD τ sig (Elt F) Λ₀ .tc) α} :
    (iprop(work X EW c (xw4 (B c) f0) (ew3 (E c) f1) ∗ free c b0
      ∗ records (msgOf B E) K ∗ levAts L lv ∗ owesE c (owedRecv c 1) ∗ cred (tallyAt (barCell c) () 15) ∗ atPos ER (barCell c) 0 ∅ 0) : sProp 𝕄)
      ⊢ iprop((iprop(has c cc0_stg0_0 X ∗ has c cc0_stg3_0 EW ∗ done B E c ∗ srcs (msgOf B E) c 1 5
        ∗ owesE c (owedRecv c 1) ∗ semVal (barCell c) 0 ∗ bigSep (Finset.Ico 1 16) (fun k => slotAny (fwd c k) k)) -∗ run c (f (Scalar.remsi (Scalar.addi v2 1#32) 16#32)) Q) -∗ run c (k0_part7 (F := F) aX h0 aR h1 aI h2 aE h3 aO h4 xwM h5 ewM h6 b0 h7 b1 h8 b2 h9 b3 h10 commM h11 cc0_scratch7 cc0_scratch8 c v2 barV (ewRow EW 3) >>= f) Q) := by
  rw [k0_part7_eq_skeleton]
  unfold k0_part7_skel
  simp only [semWaitWord, Prog.lift, Prog.bind_op, Prog.bind_ret, Prog.pure_eq_ret]
  unfold work
  iintro ⟨⟨HX, HE, H0, H1⟩, Hb, Hbar⟩ Hk
  iapply (put_ew (p := 256) (q := 512) c 768 0 inb_S1024x512_S256x512_768_0) $$ H1
  iintro H1
  iapply (wp_load 𝒱₀ (c : Thread nD τ) none Set.univ (m := xwM) (Finset.subset_univ _)) $$ H0
  iintro H0
  iapply (put_xw c 1024 0 (p := 192) (q := 1024) inb_S1216x1024_S192x1024_1024_0) $$ H0
  iintro H0
  rw [xw_chain (B c) f0 _ rfl]
  have e1 : ewPut 768 0 inb_S1024x512_S256x512_768_0 (ew3 (E c) f1) (k0_pay17 (ewRow EW 3)) = ewOf (E c) := by
    rw [← ew_chain (E c) f1, hE]; rfl
  rw [e1]
  iapply (bar_step (msgOf B E) K c rfl) $$ Hbar
  iintro Hbar
  ihave HD := (show iprop(has c cc0_scratch0 (xwOf (B c)) ∗ has c cc0_scratch1 (ewOf (E c))) ⊢ (done B E c : sProp 𝕄) from by unfold done; iintro H; iexact H) $$ [H0 H1]
  · isplitl [H0] <;> iassumption
  iapply (form_all B E c 0 1 5 rfl rfl b0 rfl (k0_off1 c 1#32) (by rw [show (1#32 : BitVec 32) = BitVec.ofNat 32 (1 + 4 * (0 : Fin 4).val) from rfl, k0_off1_eq]; rfl) (k0_off1_inb c 0) k0_pay19 rfl) $$ [HD Hb]
  · isplitl [HD] <;> iassumption
  iintro ⟨HD, Hs⟩
  iapply Hk
  isplitl [HX]; · iexact HX
  isplitl [HE]; · iexact HE
  isplitl [HD]; · iexact HD
  isplitl [Hs]; · iexact Hs
  iexact Hbar

/-- Transfer 4, the second sending buffer, transfer 5. -/
theorem part9 (c : Dev nD) (w w' w'' : BitVec 32) {α : Type} {Q : α → sProp 𝕄} {f : _ → Prog (TpuEff nD τ sig (Elt F) Λ₀ .tc) α} :
    (iprop(sendAll (msgOf B E) K c 4 5 ∗ done B E c ∗ free c b1) : sProp 𝕄)
      ⊢ iprop((∀ x, iprop(done B E c ∗ sendAll (msgOf B E) K c 6 9) -∗ run c (f x) Q) -∗ run c (k0_part9 (F := F) aX h0 aR h1 aI h2 aE h3 aO h4 xwM h5 ewM h6 b0 h7 b1 h8 b2 h9 b3 h10 commM h11 cc0_scratch7 cc0_scratch8 c w w' w'' >>= f) Q) := by
  rw [k0_part9_eq_skeleton]
  unfold k0_part9_skel
  simp only [semWaitWord, Prog.lift, Prog.bind_op, Prog.bind_ret, Prog.pure_eq_ret]
  iintro ⟨H, HD, Hb⟩ Hk
  iapply (send_next (msgOf B E) K c ⟨k0_dev19 c, k0_dev19_lt c⟩ 4 5 (Fin.ext (k0_dev19_eq c)) (by decide) (by decide) (by decide)) $$ H
  iintro H
  iapply (form_all B E c 1 5 9 rfl rfl b1 rfl (k0_off1 c 5#32) (by rw [show (5#32 : BitVec 32) = BitVec.ofNat 32 (1 + 4 * (1 : Fin 4).val) from rfl, k0_off1_eq]; rfl) (k0_off1_inb c 1) k0_pay20 rfl) $$ [HD Hb]
  · isplitl [HD] <;> iassumption
  iintro ⟨HD, Hs⟩
  ihave H := (refill K (msgOf B E) c 5 9) $$ [H Hs]
  · isplitl [H] <;> iassumption
  iapply (send_next (msgOf B E) K c ⟨k0_dev20 c, k0_dev20_lt c⟩ 5 9 (Fin.ext (k0_dev20_eq c)) (by decide) (by decide) (by decide)) $$ H
  iintro H
  iapply Hk
  isplitl [HD] <;> iassumption

/-- Transfer 8, the third sending buffer, transfer 9. -/
theorem part11 (c : Dev nD) (w : BitVec 32) {α : Type} {Q : α → sProp 𝕄} {f : _ → Prog (TpuEff nD τ sig (Elt F) Λ₀ .tc) α} :
    (iprop(sendAll (msgOf B E) K c 8 9 ∗ done B E c ∗ free c b2) : sProp 𝕄)
      ⊢ iprop((∀ x, iprop(done B E c ∗ sendAll (msgOf B E) K c 10 13) -∗ run c (f x) Q) -∗ run c (k0_part11 (F := F) aX h0 aR h1 aI h2 aE h3 aO h4 xwM h5 ewM h6 b0 h7 b1 h8 b2 h9 b3 h10 commM h11 cc0_scratch7 cc0_scratch8 c w >>= f) Q) := by
  rw [k0_part11_eq_skeleton]
  unfold k0_part11_skel
  simp only [semWaitWord, Prog.lift, Prog.bind_op, Prog.bind_ret, Prog.pure_eq_ret]
  iintro ⟨H, HD, Hb⟩ Hk
  iapply (send_next (msgOf B E) K c ⟨k0_dev23 c, k0_dev23_lt c⟩ 8 9 (Fin.ext (k0_dev23_eq c)) (by decide) (by decide) (by decide)) $$ H
  iintro H
  iapply (form_all B E c 2 9 13 rfl rfl b2 rfl (k0_off1 c 9#32) (by rw [show (9#32 : BitVec 32) = BitVec.ofNat 32 (1 + 4 * (2 : Fin 4).val) from rfl, k0_off1_eq]; rfl) (k0_off1_inb c 2) k0_pay21 rfl) $$ [HD Hb]
  · isplitl [HD] <;> iassumption
  iintro ⟨HD, Hs⟩
  ihave H := (refill K (msgOf B E) c 9 13) $$ [H Hs]
  · isplitl [H] <;> iassumption
  iapply (send_next (msgOf B E) K c ⟨k0_dev24 c, k0_dev24_lt c⟩ 9 13 (Fin.ext (k0_dev24_eq c)) (by decide) (by decide) (by decide)) $$ H
  iintro H
  iapply Hk
  isplitl [HD] <;> iassumption

/-- The fourth sending buffer, transfer 13. -/
theorem part13 (c : Dev nD) (w w' : BitVec 32) {α : Type} {Q : α → sProp 𝕄} {f : _ → Prog (TpuEff nD τ sig (Elt F) Λ₀ .tc) α} :
    (iprop(sendAll (msgOf B E) K c 13 13 ∗ done B E c ∗ free c b3) : sProp 𝕄)
      ⊢ iprop((∀ x y, iprop(done B E c ∗ sendAll (msgOf B E) K c 14 17) -∗ run c (f ⟨k0_pay22 (winOf (B c) (winRow c 3)) (ewOf (E c)), x, y⟩) Q) -∗ run c (k0_part13 (F := F) aX h0 aR h1 aI h2 aE h3 aO h4 xwM h5 ewM h6 b0 h7 b1 h8 b2 h9 b3 h10 commM h11 cc0_scratch7 cc0_scratch8 c w w' >>= f) Q) := by
  rw [k0_part13_eq_skeleton]
  unfold k0_part13_skel
  simp only [semWaitWord, Prog.lift, Prog.bind_op, Prog.bind_ret, Prog.pure_eq_ret]
  iintro ⟨H, HD, Hb⟩ Hk
  iapply (form_all B E c 3 13 17 rfl rfl b3 rfl (k0_off1 c 13#32) (by rw [show (13#32 : BitVec 32) = BitVec.ofNat 32 (1 + 4 * (3 : Fin 4).val) from rfl, k0_off1_eq]; rfl) (k0_off1_inb c 3) k0_pay23 rfl) $$ [HD Hb]
  · isplitl [HD] <;> iassumption
  iintro ⟨HD, Hs⟩
  ihave H := (refill K (msgOf B E) c 13 17) $$ [H Hs]
  · isplitl [H] <;> iassumption
  iapply (send_next (msgOf B E) K c ⟨k0_dev28 c, k0_dev28_lt c⟩ 13 17 (Fin.ext (k0_dev28_eq c)) (by decide) (by decide) (by decide)) $$ H
  iintro H
  iapply Hk
  isplitl [HD] <;> iassumption

end Forming

/-! ## The last transfers, the arrivals, the store of the sum -/

section Ends

variable (msg : Dev nD → ℕ → S64x512.Idx → Elt F .bf16) (K : Dev nD × Fin 33 → ℕ)

/-- Once all is sent, the arrivals begin. -/
theorem to_got (c : Dev nD) :
    (iprop(sendAll msg K c 16 17 ∗ bigSep (Finset.Ico 1 16) fun i => iprop(atPos ER (recvCell c i) 0 ∅ 0 ∗ cred (tallyAt (recvCell c i) () N))) : sProp 𝕄)
      ⊢ iprop(gotAll msg K c 1 ∗ srcs msg c 16 17 ∗ bigSep (Finset.Ico 1 16) fun i => cred (tallyAt (sendCell c i) () N)) := by
  unfold sendAll gotAll sendState recvState
  rw [owedRecv_done, Finset.Ico_self 1, Finset.Ico_self 16, bigSep_empty, bigSep_empty, bigSep_empty]
  iintro ⟨⟨#Hrec, Hs, HO, -, Hc⟩, Hr⟩
  isplitl [HO Hr]
  · isplitr; · iexact Hrec
    isplitl; · isplitl [HO]; · iexact HO
               isplitl [Hr]; · iexact Hr
               iempintro
    iempintro
  isplitl [Hs] <;> iassumption

/-- Once all has arrived, the waits for the transfers begin. -/
theorem to_wait (c : Dev nD) :
    (iprop(gotAll msg K c 16 ∗ bigSep (Finset.Ico 1 16) fun i => iprop(atPos ER (sendCell c i) 0 ∅ 0 ∗ cred (tallyAt (sendCell c i) () N))) : sProp 𝕄)
      ⊢ iprop(waitAll msg K c 1 ∗ (bigSep (Finset.Ico 1 16) fun i => semVal (recvCell c i) 0) ∗ bigSep (Finset.Ico 1 16) fun i => recvPay msg c i) := by
  unfold gotAll waitAll recvState waitState
  rw [Finset.Ico_self 1, Finset.Ico_self 16, bigSep_empty, bigSep_empty]
  iintro ⟨⟨#Hrec, ⟨HO, -, Hv⟩, Hg⟩, Hr⟩
  isplitl [HO Hr]
  · isplitr; · iexact Hrec
    isplitl [HO]; · iexact HO
    isplitl [Hr]; · iexact Hr
    iempintro
  isplitl [Hv] <;> iassumption

/-- Transfers 14 and 15, and block 1. -/
theorem part14 (c : Dev nD) (w w' w'' : BitVec 32) (v : FVec F S256x512 .f32) {α : Type} {Q : α → sProp 𝕄} {f : _ → Prog (TpuEff nD τ sig (Elt F) Λ₀ .tc) α} :
    (iprop(sendAll msg K c 14 17 ∗ bigSep (Finset.Ico 1 16) fun i => iprop(atPos ER (recvCell c i) 0 ∅ 0 ∗ cred (tallyAt (recvCell c i) () N))) : sProp 𝕄)
      ⊢ iprop((∀ x y z, iprop(gotAll msg K c 2 ∗ srcs msg c 16 17 ∗ bigSep (Finset.Ico 1 16) fun i => cred (tallyAt (sendCell c i) () N)) -∗ run c (f ⟨x, k0_pay24 v (rcv msg c 1), y, z⟩) Q) -∗ run c (k0_part14 (F := F) aX h0 aR h1 aI h2 aE h3 aO h4 xwM h5 ewM h6 b0 h7 b1 h8 b2 h9 b3 h10 commM h11 cc0_scratch7 cc0_scratch8 c w w' w'' v >>= f) Q) := by
  rw [k0_part14_eq_skeleton]
  unfold k0_part14_skel
  simp only [semWaitWord, Prog.lift, Prog.bind_op, Prog.bind_ret, Prog.pure_eq_ret]
  iintro ⟨H, Hr⟩ Hk
  iapply (send_next msg K c ⟨k0_dev29 c, k0_dev29_lt c⟩ 14 17 (Fin.ext (k0_dev29_eq c)) (by decide) (by decide) (by decide)) $$ H
  iintro H
  iapply (send_next msg K c ⟨k0_dev30 c, k0_dev30_lt c⟩ 15 17 (Fin.ext (k0_dev30_eq c)) (by decide) (by decide) (by decide)) $$ H
  iintro H
  ihave H := (to_got msg K c) $$ [H Hr]
  · isplitl [H] <;> iassumption
  icases H with ⟨H, Hs⟩
  iapply (got_wait msg K c 1 (by decide) (by decide)) $$ H
  iintro H
  iapply (got_load msg K c 2 1 (by decide) (by decide)) $$ H
  iintro H
  iapply Hk
  isplitl [H] <;> iassumption

/-- Blocks 14 and 15, the store of the sum, the first wait for a transfer. -/
theorem part20 (c : Dev nD) (w : BitVec 32) (v : FVec F S64x512 .f32) {α : Type} {Q : α → sProp 𝕄} {f : _ → Prog (TpuEff nD τ sig (Elt F) Λ₀ .tc) α} :
    (iprop(gotAll msg K c 15 ∗ (∃ f, has c cc0_stg4_0 f) ∗ bigSep (Finset.Ico 1 16) fun i => iprop(atPos ER (sendCell c i) 0 ∅ 0 ∗ cred (tallyAt (sendCell c i) () N))) : sProp 𝕄)
      ⊢ iprop((∀ x, iprop(waitAll msg K c 2 ∗ has c cc0_stg4_0 (k0_pay30 v (rcv msg c 14) (rcv msg c 15)) ∗ (bigSep (Finset.Ico 1 16) fun i => semVal (recvCell c i) 0) ∗ bigSep (Finset.Ico 1 16) fun i => recvPay msg c i) -∗ run c (f x) Q) -∗ run c (k0_part20 (F := F) aX h0 aR h1 aI h2 aE h3 aO h4 xwM h5 ewM h6 b0 h7 b1 h8 b2 h9 b3 h10 commM h11 cc0_scratch7 cc0_scratch8 w v >>= f) Q) := by
  rw [k0_part20_eq_skeleton]
  unfold k0_part20_skel
  simp only [semWaitWord, Prog.lift, Prog.bind_op, Prog.bind_ret, Prog.pure_eq_ret]
  iintro ⟨H, ⟨%g, HO⟩, Hw⟩ Hk
  iapply (got_load msg K c 15 14 (by decide) (by decide)) $$ H
  iintro H
  iapply (got_wait msg K c 15 (by decide) (by decide)) $$ H
  iintro H
  iapply (got_load msg K c 16 15 (by decide) (by decide)) $$ H
  iintro H
  iapply (wp_load 𝒱₀ (c : Thread nD τ) none Set.univ (m := aO) (Finset.subset_univ _)) $$ HO
  iintro HO
  iapply (wp_store 𝒱₀ (c : Thread nD τ) none Set.univ (m := aO) (r := Rect.unit (s := S64x512) ![0, 0] S64x512.size inb_S64x512_S64x512_0_0) (Finset.subset_univ _)) $$ HO
  iintro HO
  rw [store_all_O]
  ihave H := (to_wait msg K c) $$ [H Hw]
  · isplitl [H] <;> iassumption
  icases H with ⟨H, Hv⟩
  iapply (wait_next msg K c 1 (by decide) (by decide)) $$ H
  iintro H
  iapply Hk
  isplitl [H]; · iexact H
  isplitl [HO] <;> iassumption

end Ends

end Cert.Moe

end
-- ==== Proof.Body.lean ====
/-
# The body of the kernel, run once

From the state of one device at the start — its cells' tokens, its inputs, its scratch memory — to the state at the end:
the same inputs, the sum in the result's buffer, every semaphore back at zero.
-/
module

public import proofs.«01_k».proof.Proof.Stores

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family counted backwards. -/
theorem bigSep_back {M : Type} [URA M] (A : ℕ → sProp M) :
    bigSep (Finset.Ico 1 16) (fun i => A (16 - i)) = bigSep (Finset.Ico 1 16) A := by
  rw [show (16 : ℕ) = 1 + 15 from rfl, bigSep_Ico_from 1 15 A, bigSep_Ico_from 1 15 (fun i => A (1 + 15 - i)),
    bigSep_univ_equiv (Fin.revPerm : Fin 15 ≃ Fin 15) (fun i : Fin 15 => A (1 + i.val))]
  refine bigSep_congr fun i _ => congrArg A ?_
  have := i.isLt
  show 1 + 15 - (1 + i.val) = 1 + (15 - (i.val + 1))
  omega

section Body

variable (X : Dev nD → Vec F S1024x256 .f32) (RW : Dev nD → Vec F S256x64 .f32) (IX : Dev nD → Vec F S1024x2 .i32) (EW : Dev nD → Vec F S4x256x512 .f32)
variable (K : Dev nD × Fin 33 → ℕ)

/-- The weighted tokens and the expert weights of each device, what it sends, what it stores. -/
def blkB (d : Dev nD) : ℕ → Vec F S1024x256 .bf16 := xwBlk d (X d) (RW d) (IX d)
def blkE (d : Dev nD) : ℕ → Vec F S256x512 .bf16 := ewBlk (EW d)
abbrev sent : Dev nD → ℕ → S64x512.Idx → Elt F .bf16 := msgOf (blkB X RW IX) (blkE EW)
def outDev (c : Dev nD) : Vec F S64x512 .f32 := outOf c (blkB X RW IX c) (blkE EW c) (rcv (sent X RW IX EW) c)

/-- A device's positions in its cells, and the tokens of the duties it pays. -/
def posAll (c : Dev nD) : sProp 𝕄 :=
  iprop(atPos ER (barCell c) 0 ∅ 0 ∗ (bigSep (Finset.Ico 0 16) fun i => atPos ER (sendCell c i) 0 ∅ 0) ∗ bigSep (Finset.Ico 0 16) fun i => atPos ER (recvCell c i) 0 ∅ 0)
def payAll (c : Dev nD) : sProp 𝕄 :=
  iprop((bigSep (Finset.Ico 1 16) fun i => dutyTok ER (barCell (fwd c i)) 0 (16 - i))
    ∗ (bigSep (Finset.Ico 1 16) fun i => dutyTok ER (sendCell c i) 0 0) ∗ bigSep (Finset.Ico 1 16) fun i => dutyTok ER (recvCell (fwd c i) i) 0 0)
/-- What it is credited at the launch. -/
def credAll (c : Dev nD) : sProp 𝕄 :=
  iprop(cred (tallyAt (barCell c) () 15) ∗ bigSep (Finset.Ico 1 16) fun i => cred (tallyAt (recvCell c i) () N))
/-- Its inputs. -/
def ins (c : Dev nD) : sProp 𝕄 :=
  iprop(has c cc0_stg0_0 (X c) ∗ has c cc0_stg1_0 (RW c) ∗ has c cc0_stg2_0 (IX c) ∗ has c cc0_stg3_0 (EW c))
/-- Its scratch memory, with any contents. -/
def scratch (c : Dev nD) : sProp 𝕄 :=
  iprop((∃ f, has c cc0_scratch0 f) ∗ (∃ f, has c cc0_scratch1 f) ∗ (∃ f, has c cc0_scratch2 f) ∗ (∃ f, has c cc0_scratch3 f)
    ∗ (∃ f, has c cc0_scratch4 f) ∗ (∃ f, has c cc0_scratch5 f) ∗ ∃ f, has c cc0_scratch6 f)
/-- Its semaphores at zero. -/
def zeros (c : Dev nD) : sProp 𝕄 :=
  iprop(semVal (barCell c) 0 ∗ (bigSep (Finset.Ico 0 16) fun i => semVal (sendCell c i) 0) ∗ bigSep (Finset.Ico 0 16) fun i => semVal (recvCell c i) 0)

/-- A sending buffer is a whole buffer. -/
theorem free_whole (c : Dev nD) (m : Memref sig .tc .vmem S256x512 .bf16) (hm : m.view.set = Finset.univ) :
    (free (F := F) c m) = iprop(∃ f, m.view.loc (c : Thread nD τ) ↦{fullShare} f) := by
  unfold free; rw [hm]

/-- Before the announcements: the slots are given away, the sending buffers stay. -/
theorem start_sig (msg : Dev nD → ℕ → S64x512.Idx → Elt F .bf16) (c : Dev nD) :
    (iprop(records msg K ∗ owesE c (O₀ c) ∗ (bigSep (Finset.Ico 1 16) fun i => dutyTok ER (barCell (fwd c i)) 0 (16 - i))
        ∗ ∃ f, has c cc0_scratch6 f) : sProp 𝕄) ⊢ iprop(sigAll msg K c 1 ∗ slotAny c 0) := by
  have hs := comm_split (F := F) c
  rw [bigSep_Ico_succ_bot (by decide : 0 < 16)] at hs
  unfold sigAll sigState
  rw [bigSep_sep', bigSep_back (fun i => (slotAny c i : sProp 𝕄))]
  iintro ⟨#Hrec, HO, Ht, Hs⟩
  ihave Hs := hs $$ Hs
  icases Hs with ⟨H0, Hs⟩
  isplitr [H0]
  · isplitr; · iexact Hrec
    isplitl [HO]; · iexact HO
    isplitl [Ht] <;> iassumption
  iexact H0

/-- After the announcements and the barrier: everything the transfers need. -/
theorem start_send (msg : Dev nD → ℕ → S64x512.Idx → Elt F .bf16) (c : Dev nD) (b : ℕ) :
    (iprop(records msg K ∗ srcs msg c 1 b ∗ owesE c (owedRecv c 1) ∗ (bigSep (Finset.Ico 1 16) fun k => slotAny (fwd c k) k)
        ∗ (bigSep (Finset.Ico 1 16) fun i => dutyTok ER (sendCell c i) 0 0) ∗ bigSep (Finset.Ico 1 16) fun i => dutyTok ER (recvCell (fwd c i) i) 0 0) : sProp 𝕄)
      ⊢ sendAll msg K c 1 b := by
  unfold sendAll sendState
  rw [bigSep_sep', bigSep_sep', Finset.Ico_self 1, bigSep_empty]
  iintro ⟨#Hrec, Hs, HO, Hsl, H1, H2⟩
  isplitr; · iexact Hrec
  isplitl [Hs]; · iexact Hs
  isplitl [HO]; · iexact HO
  isplitl
  · isplitl [H1]; · iexact H1
    isplitl [H2] <;> iassumption
  iempintro

/-- At the end: the sending buffers and the slots are whole again. -/
theorem stages_back (V : Dev nD → ℕ → S256x512.Idx → Elt F .bf16) (c : Dev nD) :
    (bigSep (Finset.Ico 1 17) (fun k => sendPay (fun d => blockOf (V d)) c k) : sProp 𝕄)
      ⊢ iprop(free c b0 ∗ free c b1 ∗ free c b2 ∗ free c b3) := by
  rw [bigSep_Ico_cut (by decide : 1 ≤ 5) (by decide : 5 ≤ 17), bigSep_Ico_cut (by decide : 5 ≤ 9) (by decide : 9 ≤ 17),
    bigSep_Ico_cut (by decide : 9 ≤ 13) (by decide : 13 ≤ 17)]
  unfold free
  iintro ⟨H0, H1, H2, H3⟩
  isplitl [H0]; · iapply (stage_join V c 0); iexact H0
  isplitl [H1]; · iapply (stage_join V c 1); iexact H1
  isplitl [H2]; · iapply (stage_join V c 2); iexact H2
  iapply (stage_join V c 3); iexact H3

theorem slots_back (msg : Dev nD → ℕ → S64x512.Idx → Elt F .bf16) (c : Dev nD) :
    (iprop(slotAny c 0 ∗ bigSep (Finset.Ico 1 16) fun i => recvPay msg c i) : sProp 𝕄) ⊢ iprop(∃ f, has c cc0_scratch6 f) := by
  iintro ⟨H0, Hs⟩
  iapply (comm_join (F := F) c)
  rw [bigSep_Ico_succ_bot (by decide : 0 < 16)]
  isplitl [H0]; · iexact H0
  iapply (fam_mono (Finset.Ico 1 16) (fun k _ => slotAny_of_recv msg c k))
  iexact Hs

/-- After the announcements only the transfers are owed. -/
theorem sig_end (msg : Dev nD → ℕ → S64x512.Idx → Elt F .bf16) (c : Dev nD) : (sigAll msg K c 16 : sProp 𝕄) ⊢ owesE c (owedRecv c 1) := by
  unfold sigAll sigState
  rw [owedBar_done, add_zero]
  iintro ⟨-, HO, -⟩
  iexact HO

/-- After the last wait nothing is owed, and the rows of all transfers are back. -/
theorem wait_end (msg : Dev nD → ℕ → S64x512.Idx → Elt F .bf16) (c : Dev nD) :
    (iprop(waitAll msg K c 16 ∗ srcs msg c 16 17) : sProp 𝕄)
      ⊢ iprop(owesE c 0 ∗ (bigSep (Finset.Ico 1 16) fun i => semVal (sendCell c i) 0) ∗ bigSep (Finset.Ico 1 17) fun i => sendPay msg c i) := by
  unfold waitAll waitState srcs
  rw [bigSep_sep' (Finset.Ico 1 16), bigSep_Ico_cut (by decide : 1 ≤ 16) (by decide : 16 ≤ 17) (fun i => sendPay msg c i)]
  iintro ⟨⟨-, HO, -, Hz, Hp⟩, Hs⟩
  isplitl [HO]; · iexact HO
  isplitl [Hz]; · iexact Hz
  isplitl [Hp] <;> iassumption

/-- What the body starts from and what it ends with. -/
def bodyIn (c : Dev nD) : sProp 𝕄 :=
  iprop(records (sent X RW IX EW) K ∗ levAts L lv ∗ posAll c ∗ payAll c ∗ credAll c ∗ owesE c (O₀ c) ∗ ins X RW IX EW c ∗ (∃ f, has c cc0_stg4_0 f) ∗ scratch c)
def bodyOut (c : Dev nD) : sProp 𝕄 :=
  iprop(owesE c 0 ∗ ins X RW IX EW c ∗ has c cc0_stg4_0 (outDev X RW IX EW c) ∗ zeros c ∗ scratch c)

theorem close_zero (msg : Dev nD → ℕ → S64x512.Idx → Elt F .bf16) (c : Dev nD) :
    (iprop(records msg K ∗ atPos ER (sendCell c 0) 0 ∅ 0 ∗ atPos ER (recvCell c 0) 0 ∅ 0) : sProp 𝕄)
      ⊢ |={Set.univ}=> iprop(semVal (sendCell c 0) 0 ∗ semVal (recvCell c 0) 0) := by
  iintro ⟨#Hrec, HS, HV⟩
  ihave HrS := (rec_send msg K c 0) $$ Hrec
  icases HrS with ⟨#HIS, -⟩
  ihave HrV := (rec_recv msg K c 0) $$ Hrec
  icases HrV with ⟨#HIV, -⟩
  imod (Rounds.cell_close ER (exch msg) (Set.mem_univ (K (c, iSend 0))) (fun h => h) (R := 0) (duties_send_zero msg c)) $$ [HS] with HzS
  · isplitr; · iexact HIS
    iexact HS
  imod (Rounds.cell_close ER (exch msg) (Set.mem_univ (K (c, iRecv 0))) (fun h => h) (R := 0) (duties_recv_zero msg c)) $$ [HV] with HzV
  · isplitr; · iexact HIV
    iexact HV
  imodintro
  isplitl [HzS] <;> iassumption

set_option maxHeartbeats 2000000 in
/-- The body, part after part. -/
theorem body_run (c : Dev nD) (Kt : PUnit → sProp 𝕄) :
    (iprop(bodyIn X RW IX EW K c ∗ (bodyOut X RW IX EW c -∗ Kt ⟨⟩)) : sProp 𝕄)
      ⊢ run c (cc0_body (F := F) aX (Memref.isWhole_whole _) aR (Memref.isWhole_whole _) aI (Memref.isWhole_whole _) aE (Memref.isWhole_whole _) aO (Memref.isWhole_whole _) xwM (Memref.isWhole_whole _) ewM (Memref.isWhole_whole _) b0 (Memref.isWhole_whole _) b1 (Memref.isWhole_whole _) b2 (Memref.isWhole_whole _) b3 (Memref.isWhole_whole _) commM (Memref.isWhole_whole _) cc0_scratch7 cc0_scratch8) Kt := by
  rw [cc0_body_eq_skeleton]
  unfold cc0_body_skel bodyIn posAll payAll credAll ins scratch
  rw [bigSep_Ico_succ_bot (by decide : 0 < 16) (fun i => (atPos ER (sendCell c i) 0 ∅ 0 : sProp 𝕄)),
    bigSep_Ico_succ_bot (by decide : 0 < 16) (fun i => (atPos ER (recvCell c i) 0 ∅ 0 : sProp 𝕄))]
  iintro ⟨⟨#Hrec, #Hlev, ⟨HaB, ⟨HaS0, HaS⟩, HaV0, HaV⟩, ⟨HtB, HtS, HtV⟩, ⟨HcB, HcV⟩, HO, ⟨HX, HR, HI, HE⟩, Hout, ⟨⟨%f0, H0⟩, ⟨%f1, H1⟩, Hb0, Hb1, Hb2, Hb3, Hcm⟩⟩, Hk⟩
  ihave H := (start_sig K (sent X RW IX EW) c) $$ [HO HtB Hcm]
  · isplitr; · iexact Hrec
    isplitl [HO]; · iexact HO
    isplitl [HtB] <;> iassumption
  icases H with ⟨H, Hs0⟩
  iapply (part1 (sent X RW IX EW) K c) $$ H
  iintro H
  dsimp only
  iapply (part2 (sent X RW IX EW) K c) $$ H
  iintro %x H
  rcases x with ⟨x1, x2⟩
  dsimp only
  iapply (part3 (sent X RW IX EW) K c _ _ _ (X c) (RW c)) $$ [H HX HR]
  · isplitl [H]; · iexact H
    isplitl [HX] <;> iassumption
  iintro ⟨H, HX, HR⟩
  iapply (part4 (X c) (RW c) (IX c) (EW c) c f0 f1) $$ [HI HX HE H0 H1]
  · isplitl [HI]; · iexact HI
    unfold work
    isplitl [HX]; · iexact HX
    isplitl [HE]; · iexact HE
    isplitl [H0] <;> iassumption
  iintro ⟨HI, Hw⟩
  dsimp only
  iapply (part5 (X c) (RW c) (IX c) (EW c) c f0 f1) $$ Hw
  iintro Hw
  dsimp only
  iapply (part6 (X c) (RW c) (IX c) (EW c) c f0 f1) $$ Hw
  iintro Hw
  ihave HO := (sig_end K (sent X RW IX EW) c) $$ H
  iapply (part7 (blkB X RW IX) (blkE EW) K c (X c) (EW c) rfl f0 f1 (posW c)) $$ [Hw Hb0 HO HcB HaB]
  · isplitl [Hw]; · iexact Hw
    isplitl [Hb0]; · rw [free_whole c b0 (View.set_whole _)]; iexact Hb0
    isplitr; · iexact Hrec
    isplitr; · iexact Hlev
    isplitl [HO]; · iexact HO
    isplitl [HcB] <;> iassumption
  iintro ⟨HX, HE, HD, Hs, HO, HzB, Hsl⟩
  ihave H := (start_send K (sent X RW IX EW) c 5) $$ [HO Hs Hsl HtS HtV]
  · isplitr; · iexact Hrec
    isplitl [Hs]; · iexact Hs
    isplitl [HO]; · iexact HO
    isplitl [Hsl]; · iexact Hsl
    isplitl [HtS] <;> iassumption
  iapply (part8 (sent X RW IX EW) K c) $$ H
  iintro %x8 H
  rcases x8 with ⟨y1, y2, y3, y4, y5⟩
  dsimp only
  iapply (part9 (blkB X RW IX) (blkE EW) K c) $$ [H HD Hb1]
  · isplitl [H]; · iexact H
    isplitl [HD]; · iexact HD
    rw [free_whole c b1 (View.set_whole _)]; iexact Hb1
  iintro %x9 ⟨HD, H⟩
  rcases x9 with ⟨z1, z2, z3⟩
  dsimp only
  iapply (part10 (sent X RW IX EW) K c) $$ H
  iintro %x10 H
  rcases x10 with ⟨u1, u2, u3⟩
  dsimp only
  iapply (part11 (blkB X RW IX) (blkE EW) K c) $$ [H HD Hb2]
  · isplitl [H]; · iexact H
    isplitl [HD]; · iexact HD
    rw [free_whole c b2 (View.set_whole _)]; iexact Hb2
  iintro %x11 ⟨HD, H⟩
  rcases x11 with ⟨v1, v2, v3, v4⟩
  dsimp only
  iapply (part12 (sent X RW IX EW) K c) $$ H
  iintro %x12 H
  rcases x12 with ⟨w1, w2, w3⟩
  dsimp only
  iapply (part13 (blkB X RW IX) (blkE EW) K c) $$ [H HD Hb3]
  · isplitl [H]; · iexact H
    isplitl [HD]; · iexact HD
    rw [free_whole c b3 (View.set_whole _)]; iexact Hb3
  iintro %r1 %r2 ⟨HD, H⟩
  dsimp only
  iapply (part14 (sent X RW IX EW) K c) $$ [H HaV HcV]
  · isplitl [H]; · iexact H
    rw [bigSep_sep']
    isplitl [HaV] <;> iassumption
  iintro %q1 %q2 %q3 ⟨H, Hs, HcS⟩
  dsimp only
  iapply (part15 (sent X RW IX EW) K c) $$ H
  iintro H
  iapply (part16 (sent X RW IX EW) K c) $$ H
  iintro %q4 %q5 H
  dsimp only
  iapply (part17 (sent X RW IX EW) K c) $$ H
  iintro H
  iapply (part18 (sent X RW IX EW) K c) $$ H
  iintro %q6 %q7 H
  dsimp only
  iapply (part19 (sent X RW IX EW) K c) $$ H
  iintro H
  iapply (part20 (sent X RW IX EW) K c) $$ [H Hout HaS HcS]
  · isplitl [H]; · iexact H
    isplitl [Hout]; · iexact Hout
    rw [bigSep_sep']
    isplitl [HaS] <;> iassumption
  iintro %_ ⟨H, Hout, HzV, Hg⟩
  iapply (part21 (sent X RW IX EW) K c) $$ H
  iintro %_ H
  iapply (part22 (sent X RW IX EW) K c) $$ H
  iintro %_ H
  iapply (part23 (sent X RW IX EW) K c) $$ H
  iintro %_ H
  simp only [Prog.lift, Prog.bind_op, Prog.bind_ret, Prog.pure_eq_ret]
  iapply (wait_next (sent X RW IX EW) K c 15 (by decide) (by decide)) $$ H
  iintro H
  unfold run
  rw [wp_ret]
  imod (close_zero K (sent X RW IX EW) c) $$ [HaS0 HaV0] with ⟨HzS0, HzV0⟩
  · isplitr; · iexact Hrec
    isplitl [HaS0] <;> iassumption
  imodintro
  iapply Hk
  ihave H := (wait_end K (sent X RW IX EW) c) $$ [H Hs]
  · isplitl [H] <;> iassumption
  icases H with ⟨HO, HzS, Hsp⟩
  ihave Hst := (stages_back (fun d => stageOf d (blkB X RW IX d) (blkE EW d)) c) $$ Hsp
  icases Hst with ⟨Hb0, Hb1, Hb2, Hb3⟩
  ihave Hcm := (slots_back (sent X RW IX EW) c) $$ [Hs0 Hg]
  · isplitl [Hs0] <;> iassumption
  unfold bodyOut ins scratch zeros done
  rw [bigSep_Ico_succ_bot (by decide : 0 < 16) (fun i => (semVal (sendCell c i) 0 : sProp 𝕄)),
    bigSep_Ico_succ_bot (by decide : 0 < 16) (fun i => (semVal (recvCell c i) 0 : sProp 𝕄))]
  icases HD with ⟨H0, H1⟩
  isplitl [HO]; · iexact HO
  isplitl [HX HR HI HE]
  · isplitl [HX]; · iexact HX
    isplitl [HR]; · iexact HR
    isplitl [HI] <;> iassumption
  isplitl [Hout]; · iexact Hout
  isplitl [HzB HzS0 HzS HzV0 HzV]
  · isplitl [HzB]; · iexact HzB
    isplitl [HzS0 HzS]
    · isplitl [HzS0] <;> iassumption
    isplitl [HzV0] <;> iassumption
  isplitl [H0]; · iexists _; iexact H0
  isplitl [H1]; · iexists _; iexact H1
  isplitl [Hb0]; · iapply (Entails.of_eq (free_whole c b0 (View.set_whole _))); iexact Hb0
  isplitl [Hb1]; · iapply (Entails.of_eq (free_whole c b1 (View.set_whole _))); iexact Hb1
  isplitl [Hb2]; · iapply (Entails.of_eq (free_whole c b2 (View.set_whole _))); iexact Hb2
  isplitl [Hb3]; · iapply (Entails.of_eq (free_whole c b3 (View.set_whole _))); iexact Hb3
  iexact Hcm

end Body

end Cert.Moe

end
-- ==== Proof.Deal.lean ====
/-
# Dealing out the exchange

Before the devices run, the rounds of all the exchange's cells are set up at once, and what each device needs is dealt
to it: its positions in its own cells, and the tokens of the duties IT pays — which lie at other devices' cells, so
that each family of tokens is moved along the ring. What the launch credits a device is read off what the others owe it.
The contents of the messages are a parameter.
-/
module

public import proofs.«01_k».proof.Proof.Body

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens as finite sets -/

/-- A semaphore as a number: 0 for the barrier. -/
def semNo (s : SemLoc sig) : ℕ := match s with
  | .reg _ => 0
  | .dma q => q.val

theorem semNo_csem (i : Fin 33) : semNo (csem i) = if i.val = 0 then 0 else 4 + i.val := by
  unfold csem; split <;> rfl

theorem kcell_injective : Function.Injective (kcell : Dev nD × Fin 33 → GSem nD τ sig) := by
  rintro ⟨c, i⟩ ⟨c', i'⟩ h
  have h1 : c = c' := congrArg (fun g : GSem nD τ sig => g.1.1) h
  have h2 := congrArg (fun g : GSem nD τ sig => semNo g.2) h
  simp only [semNo_csem] at h2
  refine Prod.ext h1 (Fin.ext ?_)
  show i.val = i'.val
  split at h2 <;> split at h2 <;> omega

def exchCells : Finset (GSem nD τ sig) := Finset.univ.map ⟨kcell, kcell_injective⟩

/-- The duty tokens at a device's own cells: at its barrier, at its send and at its receive semaphores, fifteen each. -/
def tokOf (x : Dev nD × (Fin 3 × Fin 15)) : GSem nD τ sig × ℕ × ℕ := match x.2.1 with
  | 0 => (barCell x.1, 0, 1 + x.2.2.val)
  | 1 => (sendCell x.1 (1 + x.2.2.val), 0, 0)
  | 2 => (recvCell x.1 (1 + x.2.2.val), 0, 0)

theorem tokOf_injective : Function.Injective tokOf := by
  rintro ⟨c, a, i⟩ ⟨c', a', i'⟩ h
  have hi := i.isLt
  have hi' := i'.isLt
  have h1 := congrArg (fun x : GSem nD τ sig × ℕ × ℕ => x.1.1.1) h
  have h2 := congrArg (fun x : GSem nD τ sig × ℕ × ℕ => semNo x.1.2) h
  have h3 := congrArg (fun x : GSem nD τ sig × ℕ × ℕ => x.2.2) h
  have key : c = c' ∧ a.val = a'.val ∧ i.val = i'.val := by
    fin_cases a <;> fin_cases a' <;> simp only [tokOf, semNo, sendS, recvS] at h1 h2 h3 <;>
      exact ⟨h1, by omega, by omega⟩
  exact Prod.ext key.1 (Prod.ext (Fin.ext key.2.1) (Fin.ext key.2.2))

def exchToks : Finset (GSem nD τ sig × ℕ × ℕ) := Finset.univ.map ⟨tokOf, tokOf_injective⟩

/-- The ghost state at the start: the staging's and the exchange's. -/
def u₀ : UU :=
  (initOf (Pipeline.cells cfgs cellOf_inj) (Pipeline.launchToks cfgs cellOf_inj), initOf exchCells exchToks)

/-- The tokens at device `c`'s own cells. -/
def ownToks (c : Dev nD) : sProp 𝕄 :=
  iprop((bigSep (Finset.Ico 1 16) fun i => dutyTok ER (barCell c) 0 i)
    ∗ (bigSep (Finset.Ico 1 16) fun i => dutyTok ER (sendCell c i) 0 0) ∗ bigSep (Finset.Ico 1 16) fun i => dutyTok ER (recvCell c i) 0 0)

theorem toks_eq : bigSep exchToks (fun x => (dutyTok ER x.1 x.2.1 x.2.2 : sProp 𝕄)) = bigSep Finset.univ fun c : Dev nD => ownToks c := by
  unfold exchToks; rw [bigSep_map, bigSep_univ_prod]
  refine bigSep_congr fun c _ => ?_
  rw [bigSep_univ_prod, bigSep_univ_eq_bigSepL [(0 : Fin 3), 1, 2] (by decide) (by decide)]
  unfold ownToks
  rw [show (16 : ℕ) = 1 + 15 from rfl, bigSep_Ico_from 1 15, bigSep_Ico_from 1 15, bigSep_Ico_from 1 15]
  rfl

/-- What is said of all cells of a device, said of its barrier, send and receive cells. -/
theorem cells_split (Φ : GSem nD τ sig → sProp 𝕄) (c : Dev nD) :
    (bigSep Finset.univ fun i : Fin 33 => Φ (kcell (c, i)))
      = iprop(Φ (barCell c) ∗ (bigSep (Finset.Ico 0 16) fun k => Φ (sendCell c k)) ∗ bigSep (Finset.Ico 0 16) fun k => Φ (recvCell c k)) := by
  have h0 : (bigSep Finset.univ fun i : Fin 33 => Φ (kcell (c, i)))
      = bigSep (Finset.Ico 0 33) fun j => Φ (kcell (c, ⟨j % 33, Nat.mod_lt _ (by decide)⟩)) := by
    rw [show Finset.Ico 0 33 = Finset.Ico 0 (0 + 33) from rfl, bigSep_Ico_from 0 33]
    refine bigSep_congr fun i _ => congrArg (fun j => Φ (kcell (c, j))) (Fin.ext ?_)
    have := i.isLt
    show i.val = (0 + i.val) % 33
    omega
  rw [h0, bigSep_Ico_succ_bot (by decide : 0 < 33), bigSep_Ico_cut (by decide : 0 + 1 ≤ 17) (by decide : 17 ≤ 33)]
  rw [show Finset.Ico (0 + 1) 17 = Finset.Ico 1 (1 + 16) from rfl, show Finset.Ico 17 33 = Finset.Ico 17 (17 + 16) from rfl,
    show Finset.Ico 0 16 = Finset.Ico 0 (0 + 16) from rfl, bigSep_Ico_from 1 16, bigSep_Ico_from 17 16, bigSep_Ico_from 0 16, bigSep_Ico_from 0 16]
  refine congrArg₂ BIBase.sep (congrArg Φ (kcell_bar c)) (congrArg₂ BIBase.sep (bigSep_congr fun i _ => ?_) (bigSep_congr fun i _ => ?_))
  · have := i.isLt
    rw [← kcell_send]
    refine congrArg (fun j => Φ (kcell (c, j))) (Fin.ext ?_)
    show (1 + i.val) % 33 = 1 + (0 + i.val) % 16
    omega
  · have := i.isLt
    rw [← kcell_recv]
    refine congrArg (fun j => Φ (kcell (c, j))) (Fin.ext ?_)
    show (17 + i.val) % 33 = 17 + (0 + i.val) % 16
    omega

/-! ## The tokens along the ring -/

/-- Devices and distances in either order. -/
theorem by_distance (D : Dev nD → ℕ → sProp 𝕄) :
    (bigSep Finset.univ fun c : Dev nD => bigSep (Finset.Ico 1 16) (D c)) = bigSep (Finset.Ico 1 16) fun i => bigSep Finset.univ fun c : Dev nD => D c i := by
  rw [show (16 : ℕ) = 1 + 15 from rfl, bigSep_Ico_from 1 15, bigSep_congr (s := Finset.univ) (fun (c : Dev nD) _ => bigSep_Ico_from 1 15 (D c)),
    ← bigSep_univ_prod (fun x : Dev nD × Fin 15 => D x.1 (1 + x.2.val)), ← bigSep_univ_prod (fun x : Fin 15 × Dev nD => D x.2 (1 + x.1.val)),
    bigSep_univ_equiv (Equiv.prodComm (Fin 15) (Dev nD))]
  rfl

/-- A family over devices and distances, taken at the device the distance away. -/
theorem around (D : Dev nD → ℕ → sProp 𝕄) :
    (bigSep Finset.univ fun c : Dev nD => bigSep (Finset.Ico 1 16) fun i => D (fwd c i) i)
      = bigSep Finset.univ fun c : Dev nD => bigSep (Finset.Ico 1 16) (D c) := by
  rw [by_distance, by_distance D]
  exact bigSep_congr fun i _ => (bigSep_univ_equiv (shift i) (fun c : Dev nD => D c i)).symm

theorem toks_around : (bigSep Finset.univ fun c : Dev nD => (ownToks c : sProp 𝕄)) = bigSep Finset.univ fun c : Dev nD => payAll c := by
  unfold ownToks payAll
  rw [bigSep_sep', bigSep_sep', bigSep_sep', bigSep_sep',
    around (fun c i => (dutyTok ER (barCell c) 0 (16 - i) : sProp 𝕄)), around (fun c i => (dutyTok ER (recvCell c i) 0 0 : sProp 𝕄)),
    bigSep_congr (s := Finset.univ) (fun (c : Dev nD) _ => bigSep_back (fun i => (dutyTok ER (barCell c) 0 i : sProp 𝕄)))]

/-! ## Setting the rounds up -/

section Setup

variable (msg : Dev nD → ℕ → S64x512.Idx → Elt F .bf16)

/-- What the ghost state at the start deals device `c`; -/
def dealt (c : Dev nD) : sProp 𝕄 :=
  iprop((bigSep Finset.univ fun i : Fin 33 => roundState ER (exch msg) (kcell (c, i)) 0)
    ∗ (bigSep Finset.univ fun i : Fin 33 => atPos ER (kcell (c, i)) 0 ∅ 0)
    ∗ (bigSep Finset.univ fun i : Fin 33 => reached ER (kcell (c, i)) 0) ∗ ownToks c)
/-- and what it holds once all the rounds are set up. -/
def ready (c : Dev nD) : sProp 𝕄 := iprop(∃ K, records msg K ∗ posAll c ∗ payAll c)

theorem deal_all : BI.own (ER (initOf exchCells exchToks)) ⊢ (|==> bigSep Finset.univ (dealt msg) : sProp 𝕄) := by
  have hX (Φ : GSem nD τ sig → sProp 𝕄) : bigSep exchCells Φ = bigSep Finset.univ fun c : Dev nD => bigSep Finset.univ fun i : Fin 33 => Φ (kcell (c, i)) := by
    unfold exchCells; rw [bigSep_map, bigSep_univ_prod]; rfl
  iintro HX
  imod (Rounds.fund ER (exch msg) exchCells exchToks) $$ HX with ⟨Hst, Hr, Hat, Htok⟩
  imodintro
  ihave Hst := (Entails.of_eq (hX fun g => roundState ER (exch msg) g 0)) $$ Hst
  ihave Hat := (Entails.of_eq (hX fun g => atPos ER g 0 ∅ 0)) $$ Hat
  ihave Hr := (Entails.of_eq (hX fun g => reached ER g 0)) $$ Hr
  ihave Htok := (Entails.of_eq (toks_eq (F := F))) $$ Htok
  unfold dealt; simp only [bigSep_sep']
  isplitl [Hst]; · iexact Hst
  isplitl [Hat]; · iexact Hat
  isplitl [Hr]; · iexact Hr
  iexact Htok

/-- The kernel's own semaphores: the send and the receive semaphores. -/
def osem (i : Fin 32) : SemLoc sig := .dma ⟨5 + i.val, by show 5 + i.val < 37; have := i.isLt; omega⟩

theorem own_eq (c : Dev nD) : (Pipeline.ownSems0 (Ix := Unit) (Name := ℕ) (U := UU) (Lvl := ℕ) (Val := Elt F) (τ := τ) osem c : sProp 𝕄)
    = iprop((bigSep (Finset.Ico 0 16) fun i => semVal (sendCell c i) 0) ∗ bigSep (Finset.Ico 0 16) fun i => semVal (recvCell c i) 0) := by
  have h0 : (Pipeline.ownSems0 (Ix := Unit) (Name := ℕ) (U := UU) (Lvl := ℕ) (Val := Elt F) (τ := τ) osem c : sProp 𝕄)
      = bigSep (Finset.Ico 0 32) fun j => semVal ((c : Thread nD τ), osem ⟨j % 32, Nat.mod_lt _ (by decide)⟩) 0 := by
    unfold Pipeline.ownSems0
    rw [show Finset.Ico 0 32 = Finset.Ico 0 (0 + 32) from rfl, bigSep_Ico_from 0 32]
    refine bigSep_congr fun i _ => congrArg (fun j => semVal ((c : Thread nD τ), osem j) 0) (Fin.ext ?_)
    have := i.isLt
    show i.val = (0 + i.val) % 32
    omega
  have h1 (j : ℕ) (hj : j < 16) : osem ⟨j % 32, Nat.mod_lt _ (by decide)⟩ = .dma (sendS j) :=
    congrArg SemLoc.dma (Fin.ext (show 5 + j % 32 = 5 + j % 16 by omega))
  have h2 (j : ℕ) (hj : j < 16) : osem ⟨(16 + j) % 32, Nat.mod_lt _ (by decide)⟩ = .dma (recvS j) :=
    congrArg SemLoc.dma (Fin.ext (show 5 + (16 + j) % 32 = 21 + j % 16 by omega))
  rw [h0, bigSep_Ico_cut (by decide : 0 ≤ 16) (by decide : 16 ≤ 32), show Finset.Ico 16 32 = Finset.Ico 16 (16 + 16) from rfl,
    show Finset.Ico 0 16 = Finset.Ico 0 (0 + 16) from rfl, bigSep_Ico_from 0 16, bigSep_Ico_from 16 16, bigSep_Ico_from 0 16, bigSep_Ico_from 0 16]
  refine congrArg₂ BIBase.sep (bigSep_congr fun i _ => ?_) (bigSep_congr fun i _ => ?_)
  · have := i.isLt
    rw [h1 (0 + i.val) (by omega)]
  · have := i.isLt
    rw [h2 i.val (by omega), Nat.zero_add]

/-- The barrier semaphore is the launch's one semaphore outside the kernel's memory. -/
theorem unscoped_eq (c : Dev nD) : (unscopedSems0 c : sProp 𝕄) = semVal (barCell c) 0 := by
  unfold unscopedSems0; rw [bigSep_eq_bigSepL_of_eq [SemLoc.reg barS] (by decide) (by decide)]; rfl

/-- One device's semaphores at zero, as all its cells'. -/
theorem zeros_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 33 => semVal (kcell (c, i)) 0 : sProp 𝕄) := by
  rw [own_eq, unscoped_eq, cells_split (fun g => semVal g 0)]
  iintro ⟨⟨HS, HV⟩, HB⟩
  isplitl [HB]; · iexact HB
  isplitl [HS] <;> iassumption

theorem open_core (c : Dev nD) :
    iprop(Pipeline.ownSems0 (Ix := Unit) (Name := ℕ) (U := UU) (Lvl := ℕ) (Val := Elt F) (τ := τ) osem c ∗ unscopedSems0 c ∗ dealt msg c)
      ⊢ |={Set.univ}=> iprop((bigSep Finset.univ fun i : Fin 33 => iprop(∃ κ : ℕ, cellInv ER (exch msg) κ (kcell (c, i))))
          ∗ (bigSep Finset.univ fun i : Fin 33 => atPos ER (kcell (c, i)) 0 ∅ 0)
          ∗ (bigSep Finset.univ fun i : Fin 33 => reached ER (kcell (c, i)) 0) ∗ ownToks c) := by
  have hopen : iprop((bigSep Finset.univ fun i : Fin 33 => semVal (kcell (c, i)) 0) ∗ bigSep Finset.univ fun i : Fin 33 => roundState ER (exch msg) (kcell (c, i)) 0)
      ⊢ (|={Set.univ}=> bigSep Finset.univ fun i : Fin 33 => iprop(∃ κ : ℕ, cellInv ER (exch msg) κ (kcell (c, i))) : sProp 𝕄) := by
    rw [← bigSep_sep']
    exact (bigSep_mono fun i _ => (Rounds.body_intro ER (exch msg) (kcell (c, i))).trans inv_alloc).trans (bigSep_fupd _ _)
  unfold dealt
  iintro ⟨Hos, Hus, Hst, Hrest⟩
  ihave Hv := (zeros_eq (F := F) c) $$ [Hos Hus]
  · isplitl [Hos] <;> iassumption
  imod hopen $$ [Hv Hst] with Hinv
  · isplitl [Hv] <;> iassumption
  imodintro
  isplitl [Hinv]; · iexact Hinv
  iexact Hrest

/-- What is known for good goes to each member of a family. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem to_ready :
    (bigSep Finset.univ fun c : Dev nD => iprop((bigSep Finset.univ fun i : Fin 33 => iprop(∃ κ : ℕ, cellInv ER (exch msg) κ (kcell (c, i))))
          ∗ (bigSep Finset.univ fun i : Fin 33 => atPos ER (kcell (c, i)) 0 ∅ 0)
          ∗ (bigSep Finset.univ fun i : Fin 33 => reached ER (kcell (c, i)) 0) ∗ ownToks c) : sProp 𝕄)
      ⊢ bigSep Finset.univ (ready msg) := by
  have hpos : (bigSep Finset.univ fun c : Dev nD => bigSep Finset.univ fun i : Fin 33 => (atPos ER (kcell (c, i)) 0 ∅ 0 : sProp 𝕄))
      = bigSep Finset.univ fun c : Dev nD => posAll c :=
    bigSep_congr fun c _ => by unfold posAll; exact cells_split (fun g => atPos ER g 0 ∅ 0) c
  rw [bigSep_sep', bigSep_sep', bigSep_sep', ← bigSep_univ_prod (fun ci : Dev nD × Fin 33 => iprop(∃ κ : ℕ, cellInv ER (exch msg) κ (kcell ci))),
    ← bigSep_univ_prod (fun ci : Dev nD × Fin 33 => (reached ER (kcell ci) 0 : sProp 𝕄)), hpos, toks_around]
  iintro ⟨HI, Hat, #HR, Htok⟩
  ihave HK := (BI.bigSep_exists_pi Finset.univ (fun (ci : Dev nD × Fin 33) (κ : ℕ) => (cellInv ER (exch msg) κ (kcell ci) : sProp 𝕄))) $$ HI
  icases HK with ⟨%K, #HI⟩
  iapply (share_out (R := records msg K) (Φ := fun c : Dev nD => iprop(posAll c ∗ payAll c)) fun c _ => by
    unfold ready
    iintro ⟨Hr, Hp⟩
    iexists K
    isplitl [Hr] <;> iassumption)
  isplitr
  · unfold records
    isplitl; · iexact HI
    iexact HR
  · rw [bigSep_sep']
    isplitl [Hat] <;> iassumption

/-- All devices at once. -/
theorem setup : (bigSep Finset.univ fun c => iprop(Pipeline.ownSems0 (Ix := Unit) (Name := ℕ) (U := UU) (Lvl := ℕ) (Val := Elt F) (τ := τ) osem c ∗ unscopedSems0 c ∗ dealt msg c) : sProp 𝕄)
    ⊢ |={Set.univ}=> bigSep Finset.univ (ready msg) :=
  ((bigSep_mono fun c _ => open_core msg c).trans (bigSep_fupd _ _)).trans (BI.fupd_mono (to_ready msg))

end Setup

/-! ## The credits at the launch -/

theorem barCell_eq {a b : Dev nD} : barCell a = barCell b ↔ a = b :=
  ⟨fun h => congrArg (fun g : GSem nD τ sig => g.1.1) h, fun h => h ▸ rfl⟩
theorem recvCell_eq {a b : Dev nD} {k j : ℕ} (hk : k ∈ Finset.Ico 1 16) (hj : j ∈ Finset.Ico 1 16) : recvCell a k = recvCell b j ↔ a = b ∧ k = j := by
  rw [Finset.mem_Ico] at hk hj
  refine ⟨fun h => ⟨congrArg (fun g : GSem nD τ sig => g.1.1) h, ?_⟩, fun h => by rw [h.1, h.2]⟩
  have h2 := congrArg (fun g : GSem nD τ sig => semNo g.2) h
  have h3 : 21 + k % 16 = 21 + j % 16 := h2
  omega

/-- A family of tallies, one at each distance, summed over the devices: each distance reaches a cell from one device. -/
theorem tally_total (cell : Dev nD → ℕ → GSem nD τ sig) (n : ℕ) (g : GSem nD τ sig) (c : Dev nD) (P : ℕ → Prop) [DecidablePred P]
    (h : ∀ d, ∀ k ∈ Finset.Ico 1 16, (g = cell d k ↔ c = d ∧ P k)) :
    (∑ d : Dev nD, (∑ k ∈ Finset.Ico 1 16, tallyAt (cell (fwd d k) k) () n : CellTallies nD τ sig Unit) g ())
      = ∑ k ∈ Finset.Ico 1 16, if P k then n else 0 := by
  have h1 (d : Dev nD) : (∑ k ∈ Finset.Ico 1 16, tallyAt (cell (fwd d k) k) () n : CellTallies nD τ sig Unit) g ()
      = ∑ k ∈ Finset.Ico 1 16, if d = bwd c k then (if P k then n else 0) else 0 := by
    rw [Finset.sum_apply, Finsupp.finset_sum_apply]
    refine Finset.sum_congr rfl fun k hk => ?_
    rw [tallyAt_apply]
    by_cases hd : d = bwd c k
    · rw [if_pos hd]
      by_cases hP : P k
      · rw [if_pos hP, if_pos ⟨(h _ k hk).mpr ⟨by rw [hd, fwd_bwd], hP⟩, rfl⟩]
      · rw [if_neg hP, if_neg (fun h' => hP ((h _ k hk).mp h'.1).2)]
    · rw [if_neg hd, if_neg (fun h' => hd ((bwd_eq_iff k).mp ((h _ k hk).mp h'.1).1.symm))]
  rw [Finset.sum_congr rfl fun d _ => h1 d, Finset.sum_comm]
  refine Finset.sum_congr rfl fun k _ => ?_
  rw [Finset.sum_ite_eq' Finset.univ (bwd c k) fun _ => if P k then n else 0, if_pos (Finset.mem_univ _)]

theorem owed_total (g : GSem nD τ sig) :
    (∑ d : Dev nD, O₀ d g ()) = (∑ d : Dev nD, owedRecv d 1 g ()) + ∑ d : Dev nD, owedBar d 1 g () := by
  rw [← Finset.sum_add_distrib]; rfl

theorem credit_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, owed_total]
  have h1 := tally_total recvCell N (barCell c) c (fun _ => False) (fun d k _ =>
    ⟨fun h => absurd (congrArg Prod.snd h) (dma_ne_bar _).symm, fun h => h.2.elim⟩)
  have h2 := tally_total (fun d _ => barCell d) 1 (barCell c) c (fun _ => True) (fun d k _ =>
    ⟨fun h => ⟨barCell_eq.mp h, trivial⟩, fun h => by rw [h.1]⟩)
  unfold owedRecv owedBar
  rw [h1, h2]
  simp

theorem credit_recv (c : Dev nD) {j : ℕ} (hj : j ∈ Finset.Ico 1 16) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, owed_total]
  have h1 := tally_total recvCell N (recvCell c j) c (fun k => j = k) (fun d k hk => recvCell_eq hj hk)
  have h2 := tally_total (fun d _ => barCell d) 1 (recvCell c j) c (fun _ => False) (fun d k _ =>
    ⟨fun h => absurd (congrArg Prod.snd h) (dma_ne_bar _), fun h => h.2.elim⟩)
  unfold owedRecv owedBar
  rw [h1, h2, Finset.sum_ite_eq (Finset.Ico 1 16) j (fun _ => N), if_pos hj]
  simp

theorem recvS_inj : Set.InjOn (fun k => (SemLoc.dma (recvS k) : SemLoc sig)) (Finset.Ico 1 16 : Finset ℕ) := by
  intro k hk j hj h
  have hk := Finset.mem_Ico.mp hk
  have hj := Finset.mem_Ico.mp hj
  have h3 : 21 + k % 16 = 21 + j % 16 := congrArg semNo h
  omega

/-- The credits of the barrier and of the receive semaphores, out of those of all the semaphores. -/
theorem credits (c : Dev nD) : (Pipeline.launchCred O₀ c : sProp 𝕄) ⊢ credAll c := by
  unfold Pipeline.launchCred credAll
  rw [bigSep_univ_at _ (SemLoc.reg barS), credit_bar]
  refine sep_mono_right ?_
  have hsub : (Finset.Ico 1 16).image (fun k => (SemLoc.dma (recvS k) : SemLoc sig)) ⊆ Finset.univ.erase (SemLoc.reg barS) := by
    intro s hs
    obtain ⟨k, -, rfl⟩ := Finset.mem_image.mp hs
    exact Finset.mem_erase.mpr ⟨dma_ne_bar _, Finset.mem_univ _⟩
  refine (bigSep_subset hsub).trans ?_
  rw [bigSep_image_of_injOn recvS_inj]
  exact bigSep_mono fun k hk => by rw [← credit_recv c hk]; exact BI.Entails.refl _

end Cert.Moe

end
-- ==== Proof.Launch.lean ====
/-
# The run of the whole program

The inputs are staged, every device runs the body, the result is written back. From any memory in which all semaphores
are at zero, every fair execution of all devices terminates, with the semaphores at zero again, the inputs as they were
and each device's result array holding what the body has stored.
-/
module

public import proofs.«01_k».proof.Proof.Deal
public import proofs.«01_k».proof.Proof.Gen.KernelIdeal.Points
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at the start: any contents, every semaphore at zero. -/
def s₀ : MemSt nD τ sig (Elt F) := ⟨m, fun _ => 0, ρ⟩

/-! ## What each device is given -/

def inX (c : Dev nD) : Vec F S1024x256 .f32 := (win0_0.blk (0 : Fin 1)).view.read (Elt F) ((s₀ m ρ).mem ((c : Thread nD τ).loc main_arg0))
def inR (c : Dev nD) : Vec F S256x64 .f32 := (win0_1.blk (0 : Fin 1)).view.read (Elt F) ((s₀ m ρ).mem ((c : Thread nD τ).loc main_arg1))
def inI (c : Dev nD) : Vec F S1024x2 .i32 := (win0_2.blk (0 : Fin 1)).view.read (Elt F) ((s₀ m ρ).mem ((c : Thread nD τ).loc main_arg2))
def inE (c : Dev nD) : Vec F S4x256x512 .f32 := (win0_3.blk (0 : Fin 1)).view.read (Elt F) ((s₀ m ρ).mem ((c : Thread nD τ).loc main_arg3))

abbrev theMsg : Dev nD → ℕ → S64x512.Idx → Elt F .bf16 := sent (inX m ρ) (inR m ρ) (inI m ρ) (inE m ρ)
/-- What device `c` stores in its result. -/
abbrev theOut (c : Dev nD) : Vec F S64x512 .f32 := outDev (inX m ρ) (inR m ρ) (inI m ρ) (inE m ρ) c

/-- Device `c` before its body, scratch memory apart; -/
def start (c : Dev nD) : sProp 𝕄 := iprop(ready (theMsg m ρ) c ∗ credAll c ∗ levAts L lv)
/-- and with it; -/
def before (c : Dev nD) : sProp 𝕄 := iprop(start m ρ c ∗ scratch c)
/-- and after its body. -/
def after (c : Dev nD) : sProp 𝕄 := iprop(zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m ρ c
    | ⟨1, _⟩ => inR m ρ c
    | ⟨2, _⟩ => inI m ρ c
    | ⟨3, _⟩ => inE m ρ c
    | ⟨4, _⟩ => theOut m ρ c
  Φ t := match t with
    | ⟨0, _⟩ => before m ρ c
    | ⟨_ + 1, _⟩ => after c
  q _ := fullShare
  owed t := match t with
    | ⟨0, _⟩ => O₀ c
    | ⟨_ + 1, _⟩ => 0

/-! ## The body, as the staging meets it -/

/-- A staging buffer whole, at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 20000 in
def pointIn (c : Dev nD) : sProp 𝕄 :=
  iprop(before m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def pointOut (c : Dev nD) : sProp 𝕄 :=
  iprop(after c ∗ (dats m ρ 0 c).owesAt () t0_0.succ ∗ stg c cc0_stg0_0 (inX m ρ c) ∗ stg c cc0_stg1_0 (inR m ρ c)
    ∗ stg c cc0_stg2_0 (inI m ρ c) ∗ stg c cc0_stg3_0 (inE m ρ c) ∗ stg c cc0_stg4_0 (theOut m ρ c))

theorem point_out (c : Dev nD) : (bodyOut (inX m ρ) (inR m ρ) (inI m ρ) (inE m ρ) c : sProp 𝕄) ⊢ pointOut m ρ c := by
  unfold bodyOut pointOut after ins owesE Dat.owesAt Pipeline.owesWithin
  rw [show (dats m ρ 0 c).owed t0_0.succ = 0 from rfl]
  iintro ⟨⟨%W, HO⟩, ⟨H0, H1, H2, H3⟩, H4, Hz, Hs⟩
  isplitl [Hz Hs]
  · isplitl [Hz] <;> iassumption
  isplitl [HO]
  · iexists W
    isplitr; · ipureintro; exact fun _ _ => Or.inl trivial
    iexact HO
  isplitl [H0]
  · iexists (inX m ρ c); isplitr; · (ipureintro; rfl)
    iexact H0
  isplitl [H1]
  · iexists (inR m ρ c); isplitr; · (ipureintro; rfl)
    iexact H1
  isplitl [H2]
  · iexists (inI m ρ c); isplitr; · (ipureintro; rfl)
    iexact H2
  isplitl [H3]
  · iexists (inE m ρ c); isplitr; · (ipureintro; rfl)
    iexact H3
  iexists (theOut m ρ c); isplitr; · (ipureintro; rfl)
  iexact H4

theorem point_in (c : Dev nD) : (pointIn m ρ c : sProp 𝕄) ⊢ iprop(∃ K, bodyIn (inX m ρ) (inR m ρ) (inI m ρ) (inE m ρ) K c) := by
  unfold pointIn before start ready bodyIn ins owesE Dat.owesAt Pipeline.owesWithin
  rw [show (dats m ρ 0 c).owed t0_0.castSucc = O₀ c from rfl]
  iintro ⟨⟨⟨⟨%K, Hrec, Hpos, Hpay⟩, Hcr, Hlev⟩, Hscr⟩, ⟨%W, -, HO⟩, ⟨%d0, %g0, %hg0, H0⟩, ⟨%d1, %g1, %hg1, H1⟩, ⟨%d2, %g2, %hg2, H2⟩, ⟨%d3, %g3, %hg3, H3⟩, ⟨%d4, %g4, -, H4⟩⟩
  have h0 : g0 = inX m ρ c := by rw [hg0]; unfold Dat.before; rw [if_pos (fetch0_0 t0_0)]; rfl
  have h1 : g1 = inR m ρ c := by rw [hg1]; unfold Dat.before; rw [if_pos (fetch0_1 t0_0)]; rfl
  have h2 : g2 = inI m ρ c := by rw [hg2]; unfold Dat.before; rw [if_pos (fetch0_2 t0_0)]; rfl
  have h3 : g3 = inE m ρ c := by rw [hg3]; unfold Dat.before; rw [if_pos (fetch0_3 t0_0)]; rfl
  subst h0 h1 h2 h3
  iexists K
  isplitl [Hrec]; · iexact Hrec
  isplitl [Hlev]; · iexact Hlev
  isplitl [Hpos]; · iexact Hpos
  isplitl [Hpay]; · iexact Hpay
  isplitl [Hcr]; · iexact Hcr
  isplitl [HO]; · iexists W; iexact HO
  isplitl [H0 H1 H2 H3]
  · isplitl [H0]; · iexact H0
    isplitl [H1]; · iexact H1
    isplitl [H2] <;> iassumption
  isplitl [H4]; · iexists g4; iexact H4
  iexact Hscr

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show pointIn m ρ c ⊢ run c (cc0_body (F := F) aX (Memref.isWhole_whole _) aR (Memref.isWhole_whole _) aI (Memref.isWhole_whole _) aE (Memref.isWhole_whole _) aO (Memref.isWhole_whole _) xwM (Memref.isWhole_whole _) ewM (Memref.isWhole_whole _) b0 (Memref.isWhole_whole _) b1 (Memref.isWhole_whole _) b2 (Memref.isWhole_whole _) b3 (Memref.isWhole_whole _) commM (Memref.isWhole_whole _) cc0_scratch7 cc0_scratch8) (fun _ => pointOut m ρ c)
  iintro H
  ihave H := (point_in m ρ c) $$ H
  icases H with ⟨%K, H⟩
  iapply (body_run (inX m ρ) (inR m ρ) (inI m ρ) (inE m ρ) K c fun _ => pointOut m ρ c)
  isplitl [H]; · iexact H
  iintro H
  iapply (point_out m ρ c)
  iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (theMsg m ρ) c)
      ⊢ |={Set.univ}=> iprop(start m ρ c ∗ emp) := by
  iintro ⟨-, Hlev, Hcr, -, HG⟩
  ihave Hc := (credits (F := F) c) $$ Hcr
  imodintro
  unfold start
  isplitl
  · isplitl [HG]; · iexact HG
    isplitl [Hc]; · iexact Hc
    iexact Hlev
  · iempintro

theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratch
  iintro ⟨Hs, -, Hr⟩
  isplitl [Hs]; · iexact Hs
  iexact Hr

theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq, own_eq, unscoped_eq]
  unfold after zeros scratch
  iintro ⟨⟨HzB, HzS, HzV⟩, Hr⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What window `w`'s array holds at the end on device `c`. -/
def atEnd (c : Dev nD) (w : Fin cfg0.W) : Buf (Elt F) ((cfg0.win w).arr.view.loc (c : Thread nD τ)) := (dats m ρ 0 c).arrAt w cfg0.N

set_option maxRecDepth 8000 in
/-- For any float values, from any memory with the semaphores at zero: every fair execution of the sixteen devices
    terminates; each array holds what `atEnd` says and every semaphore is at zero. -/
theorem run_main : θ_run defs (onTc (τ := τ) (main (F := F))) (s₀ m ρ)
    (fun r => (∀ c : Dev nD, ∀ w : Fin cfg0.W, r.2.mem ((cfg0.win w).arr.view.loc (c : Thread nD τ)) = atEnd m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (theMsg m ρ)) (G' := ready (theMsg m ρ)) (u₀ := u₀)
    (hu₀ := by
      unfold u₀
      iintro Hu
      ihave H := (ownU_pair _ _) $$ Hu
      icases H with ⟨HP, HX⟩
      imod (deal_all (theMsg m ρ)) $$ HX with HG
      imodintro
      isplitl [HP] <;> iassumption)
    (hglob := setup (theMsg m ρ))
    (hA := fun _ _ => rfl) (hpf := fun _ k => k.elim0)
    (X := start m ρ) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are unchanged. -/
theorem atEnd_in (c : Dev nD) : ∀ w : Fin 4, atEnd m ρ c w.castSucc = (s₀ m ρ).mem ((cfg0.win w.castSucc).arr.view.loc (c : Thread nD τ))
  | 0 => (dats (F := F) m ρ 0 c).arrAt_in (0 : Fin 5) rfl _
  | 1 => (dats (F := F) m ρ 0 c).arrAt_in (1 : Fin 5) rfl _
  | 2 => (dats (F := F) m ρ 0 c).arrAt_in (2 : Fin 5) rfl _
  | 3 => (dats (F := F) m ρ 0 c).arrAt_in (3 : Fin 5) rfl _

end Cert.Moe

end
-- ==== Proof.Frames.lean ====
/-
# The three programs run

Each terminates with its arguments as they were and every semaphore at zero: the kernel at either reading of its
floats by the one run of Launch.lean, the reference because it is a straight line of host operations.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Idealize.ShloMosaic Idealize.SL.Sem

/-- The run, read at the arguments. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run Cert.KernelIdeal.defs _ _).mono
    (fun _ h => ⟨fun c => ⟨(h.1 c 0).trans (atEnd_in m ρ c 0), (h.1 c 1).trans (atEnd_in m ρ c 1),
      (h.1 c 2).trans (atEnd_in m ρ c 2), (h.1 c 3).trans (atEnd_in m ρ c 3)⟩, h.2⟩)
    (run_main m ρ)

theorem frame_kernelIdeal : Cert.quiescent_KernelIdeal (hKernelIdeal := Cert.KernelIdeal.Gen.facts) := fun m ρ _ => frame_any (F := Ideal) m ρ

/-- The two printings of the kernel have the same body table. -/
theorem kernel_defs : Cert.Kernel.defs (F := Bits) = Cert.KernelIdeal.defs (F := Bits) := by
  refine congrArg (Pipeline.defs Cert.KernelIdeal.pcfgs) ?_
  unfold Cert.Kernel.defs₀ Cert.KernelIdeal.defs₀
  refine congrArg Defs.onTc (funext fun l => funext fun x => ?_)
  match l, x with
  | 0, (t, s) => rfl

theorem frame_kernel : Cert.quiescent_Kernel (hKernel := Cert.Kernel.Gen.facts) := fun m ρ _ => by
  rw [kernel_defs]
  exact frame_any (F := Bits) m ρ

theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Moe

end
-- ==== Proof.Output.lean ====
/-
# The arrays that the run reads and writes

Each window of the launch is a whole array: what a device is given are its arguments, and its result array ends holding
what it stores.
-/
module

public import proofs.«01_k».proof.Proof.Launch
public import Idealize.ShloMosaic.Lib.Pipeline.ValueKit
public import Idealize.ShloMosaic.Lib.Pointwise

@[expose] public section

noncomputable section

namespace Cert.Moe

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg) (c : Dev nD)

theorem inX_eq : inX m ρ c = m ((c : Thread nD τ).loc main_arg0) := by
  have e : win0_0.index (0 : Fin 1) = ![0, 0] := by decide +kernel
  refine funext fun y => congrArg (m ((c : Thread nD τ).loc main_arg0)) (show (win0_0.blk (0 : Fin 1)).view.emb y = y from ?_)
  blk_ext [e]
theorem inR_eq : inR m ρ c = m ((c : Thread nD τ).loc main_arg1) := by
  have e : win0_1.index (0 : Fin 1) = ![0, 0] := by decide +kernel
  refine funext fun y => congrArg (m ((c : Thread nD τ).loc main_arg1)) (show (win0_1.blk (0 : Fin 1)).view.emb y = y from ?_)
  blk_ext [e]
theorem inI_eq : inI m ρ c = m ((c : Thread nD τ).loc main_arg2) := by
  have e : win0_2.index (0 : Fin 1) = ![0, 0] := by decide +kernel
  refine funext fun y => congrArg (m ((c : Thread nD τ).loc main_arg2)) (show (win0_2.blk (0 : Fin 1)).view.emb y = y from ?_)
  blk_ext [e]
theorem inE_eq : inE m ρ c = m ((c : Thread nD τ).loc main_arg3) := by
  have e : win0_3.index (0 : Fin 1) = ![0, 0, 0] := by decide +kernel
  refine funext fun y => congrArg (m ((c : Thread nD τ).loc main_arg3)) (show (win0_3.blk (0 : Fin 1)).view.emb y = y from ?_)
  blk_ext [e]

theorem atEnd_out : atEnd m ρ c 4 = theOut m ρ c := by
  refine (dats m ρ 0 c).arrAt_eq_of_after_last 4 t0_0 (by decide +kernel) _ fun j => ?_
  blk_simp
  rfl

end Cert.Moe

end
-- ==== Proof.Entries.lean ====
/-
# What the kernel's arrays hold over the extended reals, entry by entry

The router's scores and probabilities, the weight of a token for an expert, and the product of a window of weighted
tokens with the experts' weights.
-/
module

public import proofs.«01_k».proof.Proof.Body
public import Idealize.ShloMosaic.Lib.Pointwise

@[expose] public section

set_option maxRecDepth 16384

noncomputable section

namespace Cert.Moe

open Cert.KernelIdeal Cert.KernelIdeal.Gen
open Idealize.ShloMosaic

/-- The score of token `i` for expert `e`. -/
def score (X : FVec Ideal S1024x256 .f32) (RW : FVec Ideal S256x64 .f32) (i : Fin 1024) (e : Fin 64) : EReal :=
  ∑ d : Fin 256, X (ix2 i d) * RW (ix2 d e)

/-- Its largest score. -/
def best (X : FVec Ideal S1024x256 .f32) (RW : FVec Ideal S256x64 .f32) (i : Fin 1024) : EReal :=
  Finset.univ.fold max (Ideal.ofBits .f32 0xFF800000#32) fun e : Fin 64 => score X RW i e

/-- The exponential of a score below the largest one. -/
def raised (X : FVec Ideal S1024x256 .f32) (RW : FVec Ideal S256x64 .f32) (i : Fin 1024) (e : Fin 64) : EReal :=
  Ideal.exp (score X RW i e - best X RW i)

/-- The probability of expert `e` for token `i`. -/
def prob (X : FVec Ideal S1024x256 .f32) (RW : FVec Ideal S256x64 .f32) (i : Fin 1024) (e : Fin 64) : EReal :=
  Ideal.div (raised X RW i e) (∑ e' : Fin 64, raised X RW i e')

theorem probs_apply (X : FVec Ideal S1024x256 .f32) (RW : FVec Ideal S256x64 .f32) (i : Fin 1024) (e : Fin 64) :
    probs (F := Ideal) X RW (ix2 i e) = prob X RW i e := by
  pointwise [probs, k0_pay1, prob, raised, best, score]

/-- The expert that column `b` of the routing names for token `i`. -/
def pick (IX : IVec S1024x2 32) (b : Fin 2) (i : Fin 1024) : Fin 64 := ⟨(IX (ix2 i b)).toNat % 64, Nat.mod_lt _ (by decide)⟩

/-- Every routed index names an expert. -/
def InRange (IX : IVec S1024x2 32) : Prop := ∀ (i : Fin 1024) (b : Fin 2), (IX (ix2 i b)).toNat < 64

theorem InRange.eq_iff {IX : IVec S1024x2 32} (hI : InRange IX) (b : Fin 2) (i : Fin 1024) {e : ℕ} (he : e < 64) :
    IX (ix2 i b) = BitVec.ofNat 32 e ↔ (pick IX b i).val = e := by
  have h := hI i b
  rw [← BitVec.toNat_inj, BitVec.toNat_ofNat, Nat.mod_eq_of_lt (by omega : e < 2 ^ 32)]
  show _ ↔ (IX (ix2 i b)).toNat % 64 = e
  rw [Nat.mod_eq_of_lt h]

theorem sel_eq (p : Prop) [Decidable p] (a b : BitVec 32) (h : a = b ↔ p) (x y : EReal) :
    Scalar.select (IntOp.cmpi .eq a b) x y = if p then x else y := by
  unfold Scalar.select IntOp.cmpi
  by_cases hp : p
  · simp [hp, h.mpr hp]
  · have hab : (a == b) = false := beq_eq_false_iff_ne.mpr fun e => hp (h.mp e)
    simp [hp, hab]

theorem chosen (P : Fin 64 → EReal) {IX : IVec S1024x2 32} (hI : InRange IX) (b : Fin 2) (i : Fin 1024) :
    (∑ e : Fin 64, Scalar.select (IntOp.cmpi .eq (BitVec.ofNat 32 e.val) (IX (ix2 i b))) (P e) 0) = P (pick IX b i) := by
  rw [Finset.sum_congr rfl fun e _ => sel_eq (pick IX b i = e) _ _ (by rw [eq_comm, hI.eq_iff b i e.isLt, Fin.ext_iff]) (P e) 0,
    Finset.sum_ite_eq]
  simp

section Weights
variable (X : FVec Ideal S1024x256 .f32) (RW : FVec Ideal S256x64 .f32) (IX : IVec S1024x2 32)

theorem g0_apply (hI : InRange IX) (i : Fin 1024) : g0 (F := Ideal) X RW IX (ix2 i 0) = prob X RW i (pick IX 0 i) := by
  rw [← chosen (prob X RW i) hI 0 i]
  pointwise [g0, k0_pay4, k0_pay2, col, probs_apply]
theorem g1_apply (hI : InRange IX) (i : Fin 1024) : g1 (F := Ideal) X RW IX (ix2 i 0) = prob X RW i (pick IX 1 i) := by
  rw [← chosen (prob X RW i) hI 1 i]
  pointwise [g1, k0_pay5, k0_pay3, col, probs_apply]
theorem gs_apply (i : Fin 1024) : gs (F := Ideal) X RW IX (ix2 i 0) = g0 (F := Ideal) X RW IX (ix2 i 0) + g1 (F := Ideal) X RW IX (ix2 i 0) := by
  pointwise [gs, g0, g1, k0_pay6]

theorem posW_eq : ∀ c : Dev nD, posW c = BitVec.ofNat 32 c.val := by decide

/-- The weight of token `i` for expert `e`: its share among the two chosen ones. -/
def share (e : Fin 64) (i : Fin 1024) : EReal :=
  Ideal.div ((if pick IX 0 i = e then prob X RW i (pick IX 0 i) else 0) + (if pick IX 1 i = e then prob X RW i (pick IX 1 i) else 0))
    (prob X RW i (pick IX 0 i) + prob X RW i (pick IX 1 i))

/-- Expert `l` of device `s` in the whole list. -/
def expertOf (s : Dev nD) (l : Fin 4) : Fin 64 := ⟨4 * s.val + l.val, by have : s.val < 16 := s.isLt; have := l.isLt; omega⟩

theorem wgt_apply (hI : InRange IX) (c : Dev nD) (l : Fin 4) (i : Fin 1024) :
    wgt (F := Ideal) c X RW IX l.val (ix2 i 0) = share X RW IX (expertOf c l) i := by
  have hw : Scalar.addi (Scalar.muli (posW c) 4#32) (BitVec.ofNat 32 l.val) = BitVec.ofNat 32 (expertOf c l).val := by
    rw [posW_eq]; revert c l; decide
  have hs := fun b => (hI.eq_iff b i (expertOf c l).isLt).trans Fin.ext_iff.symm
  pointwise [wgt, k0_pay2, k0_pay3, col]
  rw [hw, sel_eq _ _ _ (hs 0), sel_eq _ _ _ (hs 1), gs_apply, g0_apply X RW IX hI, g1_apply X RW IX hI]
  rfl

theorem xwBlk_apply (c : Dev nD) (l : ℕ) (i : Fin 1024) (d : Fin 256) :
    xwBlk (F := Ideal) c X RW IX l (ix2 i d) = X (ix2 i d) * wgt (F := Ideal) c X RW IX l (ix2 i 0) := by
  pointwise [xwBlk]

end Weights

theorem ewBlk_apply (EW : FVec Ideal S4x256x512 .f32) (l : Fin 4) (d : Fin 256) (h : Fin 512) :
    ewBlk (F := Ideal) EW l.val (ix2 d h) = EW (ix3 l d h) := by
  have hl : (⟨l.val % 4, Nat.mod_lt _ (by decide)⟩ : Fin 4) = l := Fin.ext (Nat.mod_eq_of_lt l.isLt)
  pointwise [ewBlk, k0_pay11, ewRow]
  exact congrArg (fun z : Fin 4 => EW (ix3 z d h)) hl

/-! ## One device's product -/

theorem pay19_apply (A : FVec Ideal S256x1024 .bf16) (B : FVec Ideal S1024x512 .bf16) (r : Fin 256) (h : Fin 512) :
    k0_pay19 (F := Ideal) A B (ix2 r h) = ∑ q : Fin 1024, A (ix2 r q) * B (ix2 q h) := by
  pointwise [k0_pay19]

/-- What a device's four experts make of token `i`. -/
def part (B : ℕ → FVec Ideal S1024x256 .bf16) (E : ℕ → FVec Ideal S256x512 .bf16) (i : Fin 1024) (h : Fin 512) : EReal :=
  ∑ q : Fin 1024, B (q.val / 256) (ix2 (n0 := 1024) (n1 := 256) i ⟨q.val % 256, Nat.mod_lt _ (by decide)⟩)
    * E (q.val / 256) (ix2 (n0 := 256) (n1 := 512) ⟨q.val % 256, Nat.mod_lt _ (by decide)⟩ h)

theorem win_sum (B : ℕ → FVec Ideal S1024x256 .bf16) (E : ℕ → FVec Ideal S256x512 .bf16) (o : ℕ) (r : Fin 256) (h : Fin 512) (i : Fin 1024)
    (hi : (o + r.val) % 1024 = i.val) :
    (∑ q : Fin 1024, winOf (F := Ideal) B o (ix2 r q) * ewOf (F := Ideal) E (ix2 q h)) = part B E i h := by
  obtain rfl : (⟨(o + r.val) % 1024, Nat.mod_lt _ (by decide)⟩ : Fin 1024) = i := Fin.ext hi
  rfl

theorem outOf_apply (c : Dev nD) (B : ℕ → FVec Ideal S1024x256 .bf16) (E : ℕ → FVec Ideal S256x512 .bf16) (v : ℕ → FVec Ideal S1x64x512 .bf16)
    (r : Fin 64) (h : Fin 512) :
    outOf (F := Ideal) c B E v (ix2 r h)
      = (∑ q : Fin 1024, winOf (F := Ideal) B (winRow c 3) (ix2 (⟨192 + r.val, by omega⟩ : Fin 256) q) * ewOf (F := Ideal) E (ix2 q h))
        + v 1 (ix3 0 r h) + v 2 (ix3 0 r h) + v 3 (ix3 0 r h) + v 4 (ix3 0 r h) + v 5 (ix3 0 r h) + v 6 (ix3 0 r h) + v 7 (ix3 0 r h)
        + v 8 (ix3 0 r h) + v 9 (ix3 0 r h) + v 10 (ix3 0 r h) + v 11 (ix3 0 r h) + v 12 (ix3 0 r h) + v 13 (ix3 0 r h) + v 14 (ix3 0 r h)
        + v 15 (ix3 0 r h) := by
  pointwise [outOf, k0_pay30, k0_pay29, k0_pay28, k0_pay27, k0_pay26, k0_pay25, k0_pay24, k0_pay22]

/-! ## The sum over the devices -/

section Devices
variable (B : Dev nD → ℕ → FVec Ideal S1024x256 .bf16) (E : Dev nD → ℕ → FVec Ideal S256x512 .bf16)

/-- Row `r` of device `c`'s block of the result, in the whole result. -/
def rowAt (c : Dev nD) (r : Fin 64) : Fin 1024 := ⟨64 * c.val + r.val, by have : c.val < 16 := c.isLt; have := r.isLt; omega⟩

theorem lift1_apply (Y : S64x512.Idx → Elt Ideal .bf16) (r : Fin 64) (h : Fin 512) : lift1 (F := Ideal) Y (ix3 0 r h) = Y (ix2 r h) := by
  unfold lift1
  refine congrArg Y ?_
  rw [Equiv.symm_apply_eq]
  pointwise

theorem rcv_apply (c : Dev nD) (k : ℕ) (h1 : 1 ≤ k) (h2 : k < 16) (r : Fin 64) (h : Fin 512) :
    rcv (F := Ideal) (msgOf B E) c k (ix3 0 r h) = part (B (bwd c k)) (E (bwd c k)) (rowAt c r) h := by
  refine (lift1_apply _ r h).trans ?_
  have he : (srcR (k - 1)).emb (ix2 r h) = (ix2 (⟨64 * ((k - 1) % 4) + r.val, by have := r.isLt; omega⟩ : Fin 256) h : S256x512.Idx) := by
    funext d
    match d with
    | ⟨0, _⟩ => exact Fin.ext (show 64 * ((k - 1) % 4) + 1 * r.val = 64 * ((k - 1) % 4) + r.val by omega)
    | ⟨1, _⟩ => exact Fin.ext (show 0 + 1 * h.val = h.val by omega)
  show stageOf (F := Ideal) (bwd c k) (B (bwd c k)) (E (bwd c k)) ((k - 1) / 4) ((srcR (k - 1)).emb (ix2 r h)) = _
  rw [he]
  unfold stageOf
  rw [pay19_apply]
  refine win_sum _ _ _ _ _ _ ?_
  show (64 * (((c.val + (16 - k % 16)) % 16 + 4 * ((k - 1) / 4) + 1) % 16) + (64 * ((k - 1) % 4) + r.val)) % 1024 = 64 * c.val + r.val
  have : c.val < 16 := c.isLt
  have := r.isLt
  omega

/-- A device's result is the sum of the parts of all devices. -/
theorem out_sum (c : Dev nD) (r : Fin 64) (h : Fin 512) :
    outOf (F := Ideal) c (B c) (E c) (rcv (msgOf B E) c) (ix2 r h) = ∑ s : Dev nD, part (B s) (E s) (rowAt c r) h := by
  have hb : Function.Bijective fun k : Fin 16 => bwd c k.val := by revert c; decide
  have h0 : bwd c 0 = c := by revert c; decide
  rw [← hb.sum_comp fun s => part (B s) (E s) (rowAt c r) h,
    ← Finset.sum_range fun k => part (B (bwd c k)) (E (bwd c k)) (rowAt c r) h, outOf_apply,
    win_sum (B c) (E c) (winRow c 3) _ h (rowAt c r) (by
      show (64 * ((c.val + 4 * 3 + 1) % 16) + (192 + r.val)) % 1024 = 64 * c.val + r.val
      have : c.val < 16 := c.isLt
      have := r.isLt
      omega)]
  simp only [Finset.sum_range_succ, Finset.sum_range_zero, zero_add, h0]
  rw [rcv_apply B E c 1 (by omega) (by omega), rcv_apply B E c 2 (by omega) (by omega), rcv_apply B E c 3 (by omega) (by omega),
    rcv_apply B E c 4 (by omega) (by omega), rcv_apply B E c 5 (by omega) (by omega), rcv_apply B E c 6 (by omega) (by omega),
    rcv_apply B E c 7 (by omega) (by omega), rcv_apply B E c 8 (by omega) (by omega), rcv_apply B E c 9 (by omega) (by omega),
    rcv_apply B E c 10 (by omega) (by omega), rcv_apply B E c 11 (by omega) (by omega), rcv_apply B E c 12 (by omega) (by omega),
    rcv_apply B E c 13 (by omega) (by omega), rcv_apply B E c 14 (by omega) (by omega), rcv_apply B E c 15 (by omega) (by omega)]

end Devices

end Cert.Moe

end
-- ==== Proof.Reference.lean ====
/-
# What the reference computes, entry by entry

Its result, named stage by stage, and each stage read at an index: the probabilities of the two chosen experts, the two
products with the chosen experts' weights, and their weighted sum.
-/
module

public import proofs.«01_k».proof.Proof.Entries
public import proofs.«01_k».proof.Proof.Gen.ReferenceIdeal.Run

@[expose] public section

set_option maxRecDepth 16384

noncomputable section

namespace Cert.Moe.Ref

open Cert.ReferenceIdeal Cert.ReferenceIdeal.Gen
open Idealize.ShloMosaic Idealize.ShloMosaic.TcCoe

section Stages
variable {F : FTy → Type} [FloatOps F]
variable (X : FVec F S1024x256 .f32) (RW : FVec F S256x64 .f32) (IX : IVec S1024x2 32) (W : FVec F S64x256x512 .f32)

/-- The scores. -/
def scores : FVec F S1024x64 .f32 := Host.dotGeneral dot_S1024x256_S256x64_S1024x64_1_0_0_1_n_n none X RW

/-- Their exponentials, below each token's largest. -/
def raised : FVec F S1024x64 .f32 :=
  Host.exp (subf (scores X RW) (broadcastInDim S1024x64 ![0, 1] bcast_S1024x1_S1024x64_0_1 (broadcastInDim S1024x1 ![0] bcast_S1024_S1024x1_0
    (Host.reduce FloatOps.maximumf (scores X RW) (constant S_ .f32 0xFF800000#32) reducesTo_S1024x64_S1024_d1 h_S_))))

/-- The probabilities. -/
def probs : FVec F S1024x64 .f32 :=
  Host.divf (raised X RW) (broadcastInDim S1024x64 ![0, 1] bcast_S1024x1_S1024x64_0_1 (broadcastInDim S1024x1 ![0] bcast_S1024_S1024x1_0
    (Host.reduceAdd (raised X RW) (constant S_ .f32 0x00000000#32) reducesTo_S1024x64_S1024_d1 h_S_)))

/-- The routed indices, a negative one counted from the end, as the column of indices that the gather takes. -/
def wrapped : IVec S1024x2x1 32 :=
  shapeCast S1024x2x1 (select (cmpi .slt IX (broadcastInDim S1024x2 ![] bcast_S_S1024x2 (constantI S_ 32 0#32)))
    (addi IX (broadcastInDim S1024x2 ![] bcast_S_S1024x2 (constantI S_ 32 64#32))) IX) shapeCasts_S1024x2_S1024x2x1

/-- Where such an index is one of the 64. -/
def inside : IVec S1024x2 1 :=
  Host.reduce IntOp.andi (andi (cmpi .sge (wrapped IX) (broadcastInDim S1024x2x1 ![] bcast_S_S1024x2x1 (constantI S_ 32 0#32)))
    (cmpi .sle (wrapped IX) (broadcastInDim S1024x2x1 ![0, 1, 2] bcast_S1x1x1_S1024x2x1_0_1_2 (broadcastInDim S1x1x1 ![2] bcast_S1_S1x1x1_2 (constantI S1 32 63#32)))))
    (constantI S_ 1 1#1) reducesTo_S1024x2x1_S1024x2_d2 h_S_

/-- The probabilities of the two chosen experts. -/
def taken : FVec F S1024x2 .f32 :=
  select (inside IX) (Host.gather gather_S1024x64_S1024x2x1_S1024x2_n_1_0_0_1_2_11 (probs X RW) (wrapped IX))
    (broadcastInDim S1024x2 ![] bcast_S_S1024x2 (constant S_ .f32 0x7FC00000#32))
def first : FVec F S1024x1 .f32 := extractStridedSlice S1024x1 ![0, 0] (taken X RW IX) slices_S1024x2_S1024x1_0_0
def second : FVec F S1024x1 .f32 := extractStridedSlice S1024x1 ![0, 1] (taken X RW IX) slices_S1024x2_S1024x1_0_1

/-- A column of routed indices, likewise. -/
def wrapCol (v : IVec S1024x1 32) : IVec S1024x1 32 :=
  broadcastInDim S1024x1 ![0] bcast_S1024_S1024x1_0 (select
    (cmpi .slt (shapeCast S1024 v shapeCasts_S1024x1_S1024) (broadcastInDim S1024 ![] bcast_S_S1024 (constantI S_ 32 0#32)))
    (addi (shapeCast S1024 v shapeCasts_S1024x1_S1024) (broadcastInDim S1024 ![] bcast_S_S1024 (constantI S_ 32 64#32)))
    (shapeCast S1024 v shapeCasts_S1024x1_S1024))

/-- Each token times the weights of the expert that the column names for it. -/
def product (v : IVec S1024x1 32) : FVec F S1024x512 .f32 :=
  Host.dotGeneral dot_S1024x256_S1024x256x512_S1024x512_1_1_n_2_0_0 none X
    (Host.gather gather_S64x256x512_S1024x1_S1024x256x512_12_0_n_n_0_1_1256512 W (wrapCol v))

/-- The whole result. -/
def result : FVec F S1024x512 .f32 :=
  addf
    (mulf (broadcastInDim S1024x512 ![0, 1] bcast_S1024x1_S1024x512_0_1 (Host.divf (first X RW IX) (addf (first X RW IX) (second X RW IX))))
      (product X W (extractStridedSlice S1024x1 ![0, 0] IX slices_S1024x2_S1024x1_0_0)))
    (mulf (broadcastInDim S1024x512 ![0, 1] bcast_S1024x1_S1024x512_0_1 (Host.divf (second X RW IX) (addf (first X RW IX) (second X RW IX))))
      (product X W (extractStridedSlice S1024x1 ![0, 1] IX slices_S1024x2_S1024x1_0_1)))

theorem res_eq (m : (ℓ : Loc nD τ sig) → Buf (Elt F) ℓ) (c : Dev nD) :
    Value.res_out0 m c = result (m ((c : Thread nD τ).loc main_arg0)) (m ((c : Thread nD τ).loc main_arg1)) (m ((c : Thread nD τ).loc main_arg2))
      (m ((c : Thread nD τ).loc main_arg3)) := rfl

end Stages

section Entries
variable (X : FVec Ideal S1024x256 .f32) (RW : FVec Ideal S256x64 .f32) (IX : IVec S1024x2 32) (W : FVec Ideal S64x256x512 .f32)

theorem probs_apply (i : Fin 1024) (e : Fin 64) : probs (F := Ideal) X RW (ix2 i e) = prob X RW i e := by
  pointwise [probs, raised, scores, prob, Moe.raised, best, score]

variable {IX}

/-- A nonnegative word is the index it was. -/
theorem wrap_sel (v : BitVec 32) (hv : v.toNat < 64) : Scalar.select (IntOp.cmpi .slt v 0#32) (IntOp.addi v 64#32) v = v := by
  have h : IntOp.cmpi .slt v 0#32 = 0#1 := by
    unfold IntOp.cmpi
    have : v.slt 0#32 = false := by
      rw [BitVec.slt, decide_eq_false_iff_not, BitVec.toInt_eq_toNat_of_lt (by omega)]
      simp
    simp [this]
  rw [h]; rfl

theorem wrapped_apply (hI : InRange IX) (i : Fin 1024) (b : Fin 2) : wrapped IX (ix3 i b 0) = IX (ix2 i b) := by
  rw [← wrap_sel _ (hI i b)]
  pointwise [wrapped]

theorem wrapCol_apply (hI : InRange IX) (v : IVec S1024x1 32) (b : Fin 2) (hv : ∀ i, v (ix2 i 0) = IX (ix2 i b)) (i : Fin 1024) :
    wrapCol v (ix2 i 0) = IX (ix2 i b) := by
  rw [← wrap_sel _ (hI i b), ← hv i]
  pointwise [wrapCol]

theorem inside_apply (hI : InRange IX) (i : Fin 1024) (b : Fin 2) : inside IX (ix2 i b) = 1#1 := by
  have h0 : (0#32).sle (IX (ix2 i b)) = true := by
    have := hI i b
    rw [BitVec.sle, decide_eq_true_iff, BitVec.toInt_eq_toNat_of_lt (x := IX (ix2 i b)) (by omega)]
    simp
  have h1 : (IX (ix2 i b)).sle 63#32 = true := by
    have := hI i b
    rw [BitVec.sle, decide_eq_true_iff, BitVec.toInt_eq_toNat_of_lt (by omega), BitVec.toInt_eq_toNat_of_lt (by decide)]
    simp; omega
  pointwise [inside]
  rw [show (Finset.univ : Finset (Fin 1)) = {0} from rfl, Finset.fold_singleton, wrapped_apply hI]
  unfold IntOp.cmpi
  simp [h0, h1, IntOp.andi]

/-- The clamp of an index that names an expert. -/
theorem clamp_eq (hI : InRange IX) (i : Fin 1024) (b : Fin 2) : min (IX (ix2 i b)).toInt.toNat 63 = (pick IX b i).val := by
  have h := hI i b
  rw [BitVec.toInt_eq_toNat_of_lt (by omega)]
  show min (IX (ix2 i b)).toNat 63 = (IX (ix2 i b)).toNat % 64
  omega

/-- An entry of each token's row. -/
theorem gather_entry (hI : InRange IX) (P : FVec Ideal S1024x64 .f32) (i : Fin 1024) (b : Fin 2) :
    Host.gather gather_S1024x64_S1024x2x1_S1024x2_n_1_0_0_1_2_11 P (wrapped IX) (ix2 i b) = P (ix2 i (pick IX b i)) := by
  refine congrArg P (funext fun a => Fin.ext ?_)
  match a with
  | ⟨0, _⟩ =>
    show GatherDims.start _ (ix2 i b) (wrapped IX) 0 + GatherDims.batchCoord _ (ix2 i b) 0 + GatherDims.offCoord _ (ix2 i b) 0 = i.val
    rw [show GatherDims.start gather_S1024x64_S1024x2x1_S1024x2_n_1_0_0_1_2_11 (ix2 i b) (wrapped IX) 0 = 0 from rfl,
      show GatherDims.batchCoord gather_S1024x64_S1024x2x1_S1024x2_n_1_0_0_1_2_11 (ix2 i b) 0 = i.val from rfl,
      show GatherDims.offCoord gather_S1024x64_S1024x2x1_S1024x2_n_1_0_0_1_2_11 (ix2 i b) 0 = 0 from rfl, Nat.zero_add, Nat.add_zero]
  | ⟨1, _⟩ =>
    have hj : GatherDims.siIdx gather_S1024x64_S1024x2x1_S1024x2_n_1_0_0_1_2_11 (ix2 i b) ⟨0, by decide⟩ = ix3 i b 0 := by
      funext a; fin_cases a <;> rfl
    show min (wrapped IX (GatherDims.siIdx gather_S1024x64_S1024x2x1_S1024x2_n_1_0_0_1_2_11 (ix2 i b) ⟨0, by decide⟩)).toInt.toNat 63 = (pick IX b i).val
    rw [hj, wrapped_apply hI, clamp_eq hI]

/-- The weights of the expert that each token's index names. -/
theorem gather_expert (hI : InRange IX) (v : IVec S1024x1 32) (b : Fin 2) (hv : ∀ i, v (ix2 i 0) = IX (ix2 i b)) (i : Fin 1024)
    (d : Fin 256) (h : Fin 512) :
    Host.gather gather_S64x256x512_S1024x1_S1024x256x512_12_0_n_n_0_1_1256512 W (wrapCol v) (ix3 i d h) = W (ix3 (pick IX b i) d h) := by
  refine congrArg W (funext fun a => Fin.ext ?_)
  match a with
  | ⟨0, _⟩ =>
    have hj : GatherDims.siIdx gather_S64x256x512_S1024x1_S1024x256x512_12_0_n_n_0_1_1256512 (ix3 i d h) ⟨0, by decide⟩ = ix2 i 0 := by
      funext a; fin_cases a <;> rfl
    show min (wrapCol v (GatherDims.siIdx gather_S64x256x512_S1024x1_S1024x256x512_12_0_n_n_0_1_1256512 (ix3 i d h) ⟨0, by decide⟩)).toInt.toNat 63 = (pick IX b i).val
    rw [hj, wrapCol_apply hI v b hv, clamp_eq hI]
  | ⟨1, _⟩ => exact Nat.zero_add d.val
  | ⟨2, _⟩ => exact Nat.zero_add h.val

theorem taken_apply (hI : InRange IX) (i : Fin 1024) (b : Fin 2) :
    taken (F := Ideal) X RW IX (ix2 i b) = prob X RW i (pick IX b i) := by
  rw [← probs_apply, ← gather_entry hI (probs X RW)]
  pointwise [taken]
  rw [inside_apply hI]; rfl

/-- Token `i` through expert `e`. -/
def through (e : Fin 64) (i : Fin 1024) (h : Fin 512) : EReal := ∑ d : Fin 256, X (ix2 i d) * W (ix3 e d h)

theorem product_apply (hI : InRange IX) (v : IVec S1024x1 32) (b : Fin 2) (hv : ∀ i, v (ix2 i 0) = IX (ix2 i b)) (i : Fin 1024) (h : Fin 512) :
    product (F := Ideal) X W v (ix2 i h) = through X W (pick IX b i) i h := by
  pointwise [product]
  exact Finset.sum_congr rfl fun d _ => by rw [gather_expert W hI v b hv]

/-- The share of the expert in column `b`. -/
def part (IX : IVec S1024x2 32) (b : Fin 2) (i : Fin 1024) : EReal :=
  Ideal.div (prob X RW i (pick IX b i)) (prob X RW i (pick IX 0 i) + prob X RW i (pick IX 1 i))

theorem result_apply (hI : InRange IX) (i : Fin 1024) (h : Fin 512) :
    result (F := Ideal) X RW IX W (ix2 i h) = part X RW IX 0 i * through X W (pick IX 0 i) i h + part X RW IX 1 i * through X W (pick IX 1 i) i h := by
  pointwise [result, first, second]
  rw [taken_apply X RW hI, taken_apply X RW hI, product_apply X W hI _ 0 (fun i => by pointwise), product_apply X W hI _ 1 (fun i => by pointwise)]
  rfl

end Entries

end Cert.Moe.Ref

end
-- ==== Proof.Equation.lean ====
/-
# The devices' parts sum to the reference's result

For finite tokens and router weights every probability is a positive real, so a token's weight for an expert is the sum
of the shares of the columns naming it, and the sum over all experts leaves the two chosen ones. The experts' weights
may be any extended reals.
-/
module

public import proofs.«01_k».proof.Proof.Reference

@[expose] public section

noncomputable section

namespace Cert.Moe

open Cert.KernelIdeal Cert.KernelIdeal.Gen
open Idealize.ShloMosaic

/-! ## Reals among the extended reals -/

/-- A real number. -/
def IsReal (x : EReal) : Prop := ∃ r : ℝ, x = r
/-- A positive real number. -/
def IsPos (x : EReal) : Prop := ∃ r : ℝ, 0 < r ∧ x = r

theorem isReal_of_lt {x : EReal} (h1 : ⊥ < x) (h2 : x < ⊤) : IsReal x := ⟨x.toReal, (EReal.coe_toReal h2.ne h1.ne').symm⟩

theorem isReal_sum {ι : Type} (s : Finset ι) (f : ι → EReal) (h : ∀ i ∈ s, IsReal (f i)) : IsReal (∑ i ∈ s, f i) :=
  Finset.sum_induction f IsReal (fun _ _ ⟨a, ha⟩ ⟨b, hb⟩ => ⟨a + b, by rw [ha, hb, EReal.coe_add]⟩) ⟨0, rfl⟩ h

theorem IsPos.add {x y : EReal} : IsPos x → IsPos y → IsPos (x + y) :=
  fun ⟨a, pa, ha⟩ ⟨b, pb, hb⟩ => ⟨a + b, add_pos pa pb, by rw [ha, hb, EReal.coe_add]⟩

theorem IsPos.sum {ι : Type} (s : Finset ι) (hs : s.Nonempty) (f : ι → EReal) (h : ∀ i ∈ s, IsPos (f i)) : IsPos (∑ i ∈ s, f i) :=
  Finset.sum_induction_nonempty f IsPos (fun _ _ => IsPos.add) hs h

theorem div_eq {x y : EReal} (hy : IsPos y) : Ideal.div x y = x * y⁻¹ := by
  obtain ⟨b, pb, rfl⟩ := hy
  exact if_neg (EReal.coe_ne_zero.mpr pb.ne')

theorem IsPos.inv {y : EReal} : IsPos y → IsPos y⁻¹ := fun ⟨b, pb, hb⟩ => ⟨b⁻¹, inv_pos.mpr pb, by rw [hb, EReal.coe_inv]⟩

theorem IsPos.mul {x y : EReal} : IsPos x → IsPos y → IsPos (x * y) :=
  fun ⟨a, pa, ha⟩ ⟨b, pb, hb⟩ => ⟨a * b, mul_pos pa pb, by rw [ha, hb, EReal.coe_mul]⟩

theorem IsPos.nonneg {x : EReal} : IsPos x → 0 ≤ x := fun ⟨a, pa, ha⟩ => by rw [ha]; exact EReal.coe_nonneg.mpr pa.le
theorem IsPos.ne_top {x : EReal} : IsPos x → x ≠ ⊤ := fun ⟨a, pa, ha⟩ => by rw [ha]; exact EReal.coe_ne_top a

/-- A finite factor that is not negative comes out of a sum. -/
theorem mul_sum_of {ι : Type} (s : Finset ι) (f : ι → EReal) {w : EReal} (h0 : 0 ≤ w) (ht : w ≠ ⊤) : (∑ i ∈ s, w * f i) = w * ∑ i ∈ s, f i := by
  classical
  induction s using Finset.induction_on with
  | empty => simp
  | insert a s ha ih => rw [Finset.sum_insert ha, Finset.sum_insert ha, ih, EReal.left_distrib_of_nonneg_of_ne_top h0 ht]

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-! ## The probabilities -/

section Probabilities
variable {X : FVec Ideal S1024x256 .f32} {RW : FVec Ideal S256x64 .f32} (hX : ∀ j, IsReal (X j)) (hR : ∀ j, IsReal (RW j))
include hX hR

theorem score_real (i : Fin 1024) (e : Fin 64) : IsReal (score X RW i e) :=
  isReal_sum _ _ fun d _ => by
    obtain ⟨a, ha⟩ := hX (ix2 i d)
    obtain ⟨b, hb⟩ := hR (ix2 d e)
    exact ⟨a * b, by rw [ha, hb, EReal.coe_mul]⟩

theorem best_real (i : Fin 1024) : IsReal (best X RW i) := by
  refine isReal_of_lt ?_ ?_
  · refine (Finset.lt_fold_max _).mpr (.inr ⟨0, Finset.mem_univ _, ?_⟩)
    obtain ⟨a, ha⟩ := score_real hX hR i 0
    rw [ha]; exact EReal.bot_lt_coe a
  · refine (Finset.fold_max_lt _).mpr ⟨by rw [ofBits_bot]; exact bot_lt_top, fun e _ => ?_⟩
    obtain ⟨a, ha⟩ := score_real hX hR i e
    rw [ha]; exact EReal.coe_lt_top a

theorem raised_pos (i : Fin 1024) (e : Fin 64) : IsPos (raised X RW i e) := by
  obtain ⟨a, ha⟩ := score_real hX hR i e
  obtain ⟨b, hb⟩ := best_real hX hR i
  refine ⟨Real.exp (a - b), Real.exp_pos _, ?_⟩
  unfold raised
  rw [ha, hb, ← EReal.coe_sub]
  rfl

theorem prob_pos (i : Fin 1024) (e : Fin 64) : IsPos (prob X RW i e) := by
  have hs := IsPos.sum Finset.univ Finset.univ_nonempty (raised X RW i) fun e' _ => raised_pos hX hR i e'
  unfold prob
  rw [div_eq hs]
  exact (raised_pos hX hR i e).mul hs.inv

variable (IX : IVec S1024x2 32)

theorem part_pos (b : Fin 2) (i : Fin 1024) : IsPos (Ref.part X RW IX b i) := by
  have hs := (prob_pos hX hR i (pick IX 0 i)).add (prob_pos hX hR i (pick IX 1 i))
  unfold Ref.part
  rw [div_eq hs]
  exact (prob_pos hX hR i _).mul hs.inv

/-- A weight, column by column. -/
theorem share_columns (e : Fin 64) (i : Fin 1024) :
    share X RW IX e i = (if pick IX 0 i = e then Ref.part X RW IX 0 i else 0) + (if pick IX 1 i = e then Ref.part X RW IX 1 i else 0) := by
  have p0 := prob_pos hX hR i (pick IX 0 i)
  have p1 := prob_pos hX hR i (pick IX 1 i)
  have hs := p0.add p1
  have n0 : 0 ≤ if pick IX 0 i = e then prob X RW i (pick IX 0 i) else 0 := by split; exacts [p0.nonneg, le_rfl]
  have n1 : 0 ≤ if pick IX 1 i = e then prob X RW i (pick IX 1 i) else 0 := by split; exacts [p1.nonneg, le_rfl]
  unfold share Ref.part
  rw [div_eq hs, div_eq hs, div_eq hs, EReal.right_distrib_of_nonneg n0 n1, ite_mul, ite_mul, zero_mul]

theorem column_nonneg (b : Fin 2) (e : Fin 64) (i : Fin 1024) : 0 ≤ if pick IX b i = e then Ref.part X RW IX b i else 0 := by
  split; exacts [(part_pos hX hR IX b i).nonneg, le_rfl]

theorem column_ne_top (b : Fin 2) (e : Fin 64) (i : Fin 1024) : (if pick IX b i = e then Ref.part X RW IX b i else 0) ≠ ⊤ := by
  split; exacts [(part_pos hX hR IX b i).ne_top, EReal.zero_ne_top]

theorem share_nonneg (e : Fin 64) (i : Fin 1024) : 0 ≤ share X RW IX e i := by
  rw [share_columns hX hR]
  exact add_nonneg (column_nonneg hX hR IX 0 e i) (column_nonneg hX hR IX 1 e i)

theorem share_ne_top (e : Fin 64) (i : Fin 1024) : share X RW IX e i ≠ ⊤ := by
  rw [share_columns hX hR]
  exact EReal.add_ne_top (column_ne_top hX hR IX 0 e i) (column_ne_top hX hR IX 1 e i)

/-- All experts, weighted, are the two chosen ones. -/
theorem all_experts (T : Fin 64 → EReal) (i : Fin 1024) :
    (∑ e : Fin 64, share X RW IX e i * T e) = Ref.part X RW IX 0 i * T (pick IX 0 i) + Ref.part X RW IX 1 i * T (pick IX 1 i) := by
  rw [Finset.sum_congr rfl fun e _ => by
    rw [share_columns hX hR, EReal.right_distrib_of_nonneg (column_nonneg hX hR IX 0 e i) (column_nonneg hX hR IX 1 e i), ite_mul, ite_mul, zero_mul],
    Finset.sum_add_distrib, Finset.sum_ite_eq, Finset.sum_ite_eq]
  simp

end Probabilities

/-! ## The sum over the devices and their experts -/

/-- A sum over the 1024 columns of a window, by expert. -/
theorem sum_window (f : Fin 4 → Fin 256 → EReal) :
    (∑ q : Fin 1024, f ⟨q.val / 256, by omega⟩ ⟨q.val % 256, Nat.mod_lt _ (by decide)⟩) = ∑ l : Fin 4, ∑ d : Fin 256, f l d := by
  rw [← Fintype.sum_prod_type' f]
  exact (finProdFinEquiv (m := 4) (n := 256)).symm.sum_comp fun p => f p.1 p.2

/-- A sum over the 64 experts, by device. -/
theorem sum_experts (f : Fin 64 → EReal) : (∑ s : Dev nD, ∑ l : Fin 4, f (expertOf s l)) = ∑ e : Fin 64, f e := by
  rw [← Fintype.sum_prod_type' fun (s : Dev nD) (l : Fin 4) => f (expertOf s l)]
  refine Eq.trans ?_ ((finProdFinEquiv (m := 16) (n := 4)).sum_comp f)
  exact Finset.sum_congr rfl fun p _ => congrArg f (Fin.ext (Nat.add_comm _ _))

section Sum
variable (X : FVec Ideal S1024x256 .f32) (RW : FVec Ideal S256x64 .f32) (IX : IVec S1024x2 32) (W : FVec Ideal Cert.ReferenceIdeal.S64x256x512 .f32)
  (EW : Dev nD → FVec Ideal S4x256x512 .f32)

/-- One device's part is its experts', weighted. -/
theorem part_eq (hX : ∀ j, IsReal (X j)) (hR : ∀ j, IsReal (RW j)) (hI : InRange IX) (s : Dev nD)
    (hW : ∀ l d h, EW s (ix3 l d h) = W (ix3 (expertOf s l) d h)) (i : Fin 1024) (h : Fin 512) :
    part (xwBlk (F := Ideal) s X RW IX) (ewBlk (F := Ideal) (EW s)) i h
      = ∑ l : Fin 4, share X RW IX (expertOf s l) i * Ref.through X W (expertOf s l) i h := by
  have hl (l : Fin 4) : share X RW IX (expertOf s l) i * Ref.through X W (expertOf s l) i h
      = ∑ d : Fin 256, (X (ix2 i d) * share X RW IX (expertOf s l) i) * W (ix3 (expertOf s l) d h) := by
    unfold Ref.through
    rw [← mul_sum_of _ _ (share_nonneg hX hR IX _ i) (share_ne_top hX hR IX _ i)]
    exact Finset.sum_congr rfl fun d _ => by rw [← mul_assoc, mul_comm (X _)]
  rw [Finset.sum_congr rfl fun l _ => hl l, ← sum_window]
  refine Finset.sum_congr rfl fun q _ => ?_
  have hq : q.val / 256 < 4 := by omega
  rw [← wgt_apply X RW IX hI s ⟨q.val / 256, hq⟩ i, ← hW, ← ewBlk_apply (EW s), ← xwBlk_apply]

/-- The devices' parts sum to the reference's result. -/
theorem sum_parts (hX : ∀ j, IsReal (X j)) (hR : ∀ j, IsReal (RW j)) (hI : InRange IX)
    (hW : ∀ s l d h, EW s (ix3 l d h) = W (ix3 (expertOf s l) d h)) (i : Fin 1024) (h : Fin 512) :
    (∑ s : Dev nD, part (xwBlk (F := Ideal) s X RW IX) (ewBlk (F := Ideal) (EW s)) i h) = Ref.result (F := Ideal) X RW IX W (ix2 i h) := by
  rw [Finset.sum_congr rfl fun s _ => part_eq X RW IX W EW hX hR hI s (hW s) i h,
    sum_experts fun e => share X RW IX e i * Ref.through X W e i h, all_experts hX hR IX (fun e => Ref.through X W e i h) i,
    Ref.result_apply X RW W hI]

end Sum

end Cert.Moe

end
-- ==== Proof.Precondition.lean ====
/-
# What the precondition says

That no entry of the tokens or of the router's weights is infinite, and that every routed index names an expert.
-/
module

public import proofs.«01_k».proof.Defs
public import proofs.«01_k».proof.Proof.Equation

@[expose] public section

noncomputable section

namespace Cert.Moe

open Idealize.ShloMosaic

/-- The shape facts of the two printings of the precondition. -/
instance preFacts : Cert.Pre_routed_KernelIdeal.Facts where
  bcast_S_S1024x256 := by decide
  reducesTo_S1024x256_S_d0_1 := by decide
  h_S_ := by decide
  bcast_S_S256x64 := by decide
  reducesTo_S256x64_S_d0_1 := by decide
  bcast_S_S1024x2 := by decide
  reducesTo_S1024x2_S_d0_1 := by decide

instance preFactsReference : Cert.Pre_routed_ReferenceIdeal.Facts where
  bcast_S_S1024x256 := preFacts.bcast_S_S1024x256
  reducesTo_S1024x256_S_d0_1 := preFacts.reducesTo_S1024x256_S_d0_1
  h_S_ := preFacts.h_S_
  bcast_S_S256x64 := preFacts.bcast_S_S256x64
  reducesTo_S256x64_S_d0_1 := preFacts.reducesTo_S256x64_S_d0_1
  bcast_S_S1024x2 := preFacts.bcast_S_S1024x2
  reducesTo_S1024x2_S_d0_1 := preFacts.reducesTo_S1024x2_S_d0_1

/-- A conjunction of bits holds exactly when each does. -/
theorem andi_one (a b : BitVec 1) : IntOp.andi a b = 1#1 ↔ a = 1#1 ∧ b = 1#1 := by
  revert a b; decide

theorem fold_andi_one {ι : Type} [DecidableEq ι] (s : Finset ι) (p : ι → BitVec 1) (h : Finset.fold IntOp.andi (1#1) p s = 1#1) :
    ∀ x ∈ s, p x = 1#1 := by
  induction s using Finset.induction_on with
  | empty => exact fun x hx => absurd hx (Finset.notMem_empty x)
  | insert a s ha ih =>
    rw [Finset.fold_insert ha, andi_one] at h
    intro x hx
    rcases Finset.mem_insert.mp hx with rfl | hx
    · exact h.1
    · exact ih h.2 x hx

theorem ofBool_one (b : Bool) (h : BitVec.ofBool b = 1#1) : b = true := by
  cases b
  · exact absurd h (by decide)
  · rfl

/-- A number of finite magnitude is real. -/
theorem isReal_of_abs (x : EReal) (h : BitVec.ofBool (decide (max x (-x) < Ideal.ofBits .f32 2139095040#32)) = 1#1) : IsReal x := by
  have h := of_decide_eq_true (ofBool_one _ h)
  rw [show Ideal.ofBits .f32 2139095040#32 = ⊤ from ofBits_top, max_lt_iff] at h
  refine isReal_of_lt (bot_lt_iff_ne_bot.mpr fun e => ?_) h.1
  rw [e] at h
  exact absurd h.2 (by simp)

/-- A word from 0 to 63, compared as a signed number. -/
theorem small_word (v : BitVec 32) (h : IntOp.andi (IntOp.cmpi .sge v 0#32) (IntOp.cmpi .slt v 64#32) = 1#1) : v.toNat < 64 := by
  obtain ⟨h0, h1⟩ := (andi_one _ _).mp h
  have h0 : (0#32).sle v = true := ofBool_one _ h0
  have h1 : v.slt 64#32 = true := ofBool_one _ h1
  rw [BitVec.sle_iff_toInt_le] at h0
  rw [BitVec.slt_iff_toInt_lt] at h1
  have e0 : (0#32 : BitVec 32).toInt = 0 := by decide
  have e1 : (64#32 : BitVec 32).toInt = 64 := by decide
  have hv := BitVec.toInt_eq_toNat_cond v
  have := v.isLt
  split at hv <;> omega

theorem all_one {ι : Type} [DecidableEq ι] [Fintype ι] (p : ι → BitVec 1) (h : Finset.fold IntOp.andi (1#1) p Finset.univ = 1#1) (x : ι) :
    p x = 1#1 := fold_andi_one _ p h x (Finset.mem_univ x)

section Read
open Cert.Pre_routed_KernelIdeal

theorem read_pre (X : FVec Ideal S1024x256 .f32) (RW : FVec Ideal S256x64 .f32) (IX : IVec S1024x2 32) (EW : FVec Ideal S4x256x512 .f32)
    (h : Cert.Pre_routed_KernelIdeal.fn (F := Ideal) X RW IX EW = fun _ => 1#1) :
    (∀ j, IsReal (X j)) ∧ (∀ j, IsReal (RW j)) ∧ InRange IX := by
  have h0 := congrFun h ix0
  revert h0
  pointwise [Cert.Pre_routed_KernelIdeal.fn]
  intro h0
  obtain ⟨h0, hI⟩ := (andi_one _ _).mp h0
  obtain ⟨hX, hR⟩ := (andi_one _ _).mp h0
  refine ⟨fun j => ?_, fun j => ?_, fun i b => ?_⟩
  · idx_vars j
    have := all_one _ hX (j0, j1)
    rw [Ideal.absf_def] at this
    exact isReal_of_abs _ this
  · idx_vars j
    have := all_one _ hR (j0, j1)
    rw [Ideal.absf_def] at this
    exact isReal_of_abs _ this
  · exact small_word _ (all_one _ hI (i, b))

end Read

end Cert.Moe

end
-- ==== Proof.Algebraic.lean ====
/-
# The kernel computes the reference's result

Each device's result array ends holding its block of the rows of the reference's.
-/
module

public import proofs.«01_k».proof.Proof.Output
public import proofs.«01_k».proof.Proof.Precondition
public import proofs.«01_k».proof.Proof.Frames

@[expose] public section

noncomputable section

namespace Cert.Moe

open Idealize.ShloMosaic Idealize.ShloMosaic.TcCoe Idealize.SL.Sem

section Block
open Cert.KernelIdeal Cert.KernelIdeal.Gen

theorem block_out (c : Dev nD) (v : Cert.ReferenceIdeal.S1024x512.Idx → EReal) (r : Fin 64) (h : Fin 512) :
    Layout.block ⟨2, ![64, 512]⟩ ⟨2, ![1024, 512]⟩ 0 16 c v (by decide) (ix2 r h) = v (ix2 (rowAt c r) h) := by
  refine congrArg v (funext fun a => Fin.ext ?_)
  match a with
  | ⟨0, _⟩ => exact congrArg (· + r.val) (Nat.mul_comm c.val 64)
  | ⟨1, _⟩ => rfl

theorem block_weights (s : Dev nD) (W : Cert.ReferenceIdeal.S64x256x512.Idx → EReal) (l : Fin 4) (d : Fin 256) (h : Fin 512) :
    Layout.block ⟨3, ![4, 256, 512]⟩ ⟨3, ![64, 256, 512]⟩ 0 16 s W (by decide) (ix3 l d h) = W (ix3 (expertOf s l) d h) := by
  refine congrArg W (funext fun a => Fin.ext ?_)
  match a with
  | ⟨0, _⟩ => exact congrArg (· + l.val) (Nat.mul_comm s.val 4)
  | ⟨1, _⟩ => rfl
  | ⟨2, _⟩ => rfl

/-- What a device stores, from the whole arrays. -/
theorem outDev_eq (X : FVec Ideal S1024x256 .f32) (RW : FVec Ideal S256x64 .f32) (IX : IVec S1024x2 32)
    (W : FVec Ideal Cert.ReferenceIdeal.S64x256x512 .f32) (hX : ∀ j, IsReal (X j)) (hR : ∀ j, IsReal (RW j)) (hI : InRange IX) (c : Dev nD) :
    outDev (F := Ideal) (fun _ => X) (fun _ => RW) (fun _ => IX) (fun s => Layout.block ⟨3, ![4, 256, 512]⟩ ⟨3, ![64, 256, 512]⟩ 0 16 s W (by decide)) c
      = Layout.block ⟨2, ![64, 512]⟩ ⟨2, ![1024, 512]⟩ 0 16 c (Ref.result (F := Ideal) X RW IX W) (by decide) := by
  refine funext fun (j : S64x512.Idx) => ?_
  idx_vars j
  rw [block_out]
  exact (out_sum _ _ c j0 j1).trans (sum_parts X RW IX W _ hX hR hI (fun s l d h => block_weights s W l d h) (rowAt c j0) j1)

end Block

theorem algebraic : Cert.algebraic_KernelIdeal_ReferenceIdeal_pre_routed_KernelIdeal (hKernelIdeal := Cert.KernelIdeal.Gen.facts)
    (hReferenceIdeal := Cert.ReferenceIdeal.Gen.facts) (hPre_routed_KernelIdeal := preFacts) := by
  intro m g m' g' hpre hargs
  obtain ⟨hX, hR, hI⟩ := read_pre _ _ _ _ (hpre 0)
  rw [(hargs 0).1] at hX
  rw [(hargs 0).2.1] at hR
  rw [(hargs 0).2.2.1] at hI
  refine ⟨Cert.ReferenceIdeal.Value.res_out0 m' 0, (θ_run Cert.KernelIdeal.defs _ _).mono (fun r h c => ⟨?_, ?_⟩) (run_main m g),
    (θ_run Cert.ReferenceIdeal.defs _ _).mono (fun r h => h 0) (Cert.ReferenceIdeal.Value.run (F := Ideal) m' g')⟩
  · refine ((h.1 c 4).trans (atEnd_out m g c)).trans ?_
    rw [Ref.res_eq, ← outDev_eq _ _ _ _ hX hR hI c]
    have e0 : inX m g = fun _ => _ := funext fun d => (inX_eq m g d).trans (hargs d).1
    have e1 : inR m g = fun _ => _ := funext fun d => (inR_eq m g d).trans (hargs d).2.1
    have e2 : inI m g = fun _ => _ := funext fun d => (inI_eq m g d).trans (hargs d).2.2.1
    have e3 : inE m g = fun d => _ := funext fun d => (inE_eq m g d).trans (hargs d).2.2.2
    show outDev (inX m g) (inR m g) (inI m g) (inE m g) c = _
    rw [e0, e1, e2, e3]
  · exact ⟨(h.1 c 0).trans (atEnd_in m g c 0), (h.1 c 1).trans (atEnd_in m g c 1), (h.1 c 2).trans (atEnd_in m g c 2),
      (h.1 c 3).trans (atEnd_in m g c 3)⟩

end Cert.Moe

end
-- ==== Proof.lean ====
/-
# The certificate

The frames of Proof/Frames.lean, which need no precondition, and the equation of Proof/Algebraic.lean; `preserves` says
nothing, because no operation of the kernel was rewritten.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Moe.preFacts,
  Cert.Moe.preFactsReference, Cert.Moe.frame_kernel, Cert.Moe.frame_kernelIdeal, fun m g _ => Cert.Moe.frame_kernelIdeal m g trivial,
  Cert.Moe.frame_reference, fun m g _ => Cert.Moe.frame_reference m g trivial, trivial, Cert.Moe.algebraic⟩

end Cert.Proof

end
